-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![16384, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S4x1x1024 : Shape := ⟨3, ![4, 1, 1024]⟩
abbrev S4 : Shape := ⟨1, ![4]⟩
abbrev S_ : Shape := ⟨0, ![]⟩
abbrev S256x1024 : Shape := ⟨2, ![256, 1024]⟩
abbrev S1024 : Shape := ⟨1, ![1024]⟩
abbrev S1 : Shape := ⟨1, ![1]⟩
abbrev S1x1x1024 : Shape := ⟨3, ![1, 1, 1024]⟩
abbrev S256x256 : Shape := ⟨2, ![256, 256]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S1x1024, .f32⟩
  | .local _ .vmem, ⟨3, _⟩ => ⟨S4x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_47 : BitVec 32 := 1#32
  let v94 : BitVec 32 := Scalar.addi v2 c1_i32_47
  let c4_i32_48 : BitVec 32 := 4#32
  let v95 : BitVec 1 := Scalar.cmpi .slt v94 c4_i32_48
  let v96 : BitVec 32 := Scalar.extui v95
  let c0_i32_49 : BitVec 32 := 0#32
  let v97 : BitVec 1 := Scalar.cmpi .ne v96 c0_i32_49
  v97

def k0_dev5 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_164 : BitVec 32 := 1#32
  let v279 : BitVec 32 := Scalar.addi v2 c1_i32_164
  let c1_i32_168 : BitVec 32 := 1#32
  let v280 : BitVec 32 := Scalar.muli v279 c1_i32_168
  let v281 : BitVec 32 := Scalar.addi c0_i32_169 v280
  v281.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_50 : BitVec 32 := 2#32
  let v98 : BitVec 32 := Scalar.addi v2 c2_i32_50
  let c4_i32_51 : BitVec 32 := 4#32
  let v99 : BitVec 1 := Scalar.cmpi .slt v98 c4_i32_51
  let v100 : BitVec 32 := Scalar.extui v99
  let c0_i32_52 : BitVec 32 := 0#32
  let v101 : BitVec 1 := Scalar.cmpi .ne v100 c0_i32_52
  v101

def k0_dev6 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_164 : BitVec 32 := 2#32
  let v279 : BitVec 32 := Scalar.addi v2 c2_i32_164
  let c1_i32_168 : BitVec 32 := 1#32
  let v280 : BitVec 32 := Scalar.muli v279 c1_i32_168
  let v281 : BitVec 32 := Scalar.addi c0_i32_169 v280
  v281.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_53 : BitVec 32 := 3#32
  let v102 : BitVec 32 := Scalar.addi v2 c3_i32_53
  let c4_i32_54 : BitVec 32 := 4#32
  let v103 : BitVec 1 := Scalar.cmpi .slt v102 c4_i32_54
  let v104 : BitVec 32 := Scalar.extui v103
  let c0_i32_55 : BitVec 32 := 0#32
  let v105 : BitVec 1 := Scalar.cmpi .ne v104 c0_i32_55
  v105

def k0_dev7 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_164 : BitVec 32 := 3#32
  let v279 : BitVec 32 := Scalar.addi v2 c3_i32_164
  let c1_i32_168 : BitVec 32 := 1#32
  let v280 : BitVec 32 := Scalar.muli v279 c1_i32_168
  let v281 : BitVec 32 := Scalar.addi c0_i32_169 v280
  v281.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S_, .f32⟩
  | .hbm, ⟨3, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Protocol.lean ====
/-
The four-device running sum: the cells its devices meet at, what each signal and each transfer hands over, and
what each device computes.

Every device first tells every device (itself too) that it has entered, on the barrier semaphore, and waits for
four such signals. A device's signal to a device `c` below it carries the slot of its own landing buffer that
device `c` will write: slot `d` of a device is written by the device `d` places before it. Device `c` then sends
the sums of its columns to the devices after it, takes those of the devices before it, and adds them to its own
running sums.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.FamCut
public import Idealize.ShloMosaic.Lib.WritesUnit
public import Idealize.ShloMosaic.Lib.Tactic

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's own ghost state beside that of the devices' cells, whose duties are named by devices -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## Buffers, slots, semaphores -/

abbrev xM : Memref sig .tc .vmem S4096x1024 .f32 := Memref.whole cc0_stg0_0
abbrev oM : Memref sig .tc .vmem S4096x1024 .f32 := Memref.whole cc0_stg1_0
abbrev totM : Memref sig .tc .vmem S1x1024 .f32 := Memref.whole cc0_scratch0
abbrev commM : Memref sig .tc .vmem S4x1x1024 .f32 := Memref.whole cc0_scratch1

theorem slot_inb (d : Fin 4) : ∀ a, (![d.val, 0, 0] : Fin 3 → ℕ) a + S1x1x1024.size a ≤ S4x1x1024.size a := by
  revert d; decide
theorem sem_inb (d : Fin 4) : ∀ a, (![d.val] : Fin 1 → ℕ) a + S1.size a ≤ S4.size a := by revert d; decide

/-- Row `d` of the landing buffer. -/
abbrev slotR (d : Fin 4) : Rect S4x1x1024 := Rect.unit (s := S4x1x1024) ![d.val, 0, 0] S1x1x1024.size (slot_inb d)
abbrev slotM (d : Fin 4) : Memref sig .tc .vmem S1x1024 .f32 :=
  (commM.slice (slotR d) (fun _ => rfl)).squeeze S1x1024 squeezes_S1x1x1024_S1x1024

abbrev barS : Sem sig := (SemArray.scalar (sig.barrier 0 rfl) : Sems sig S_).sem
abbrev semAt (A : DmaSems sig S4) (d : Fin 4) : DmaSems sig S_ :=
  (A.slice (Rect.unit (s := S4) ![d.val] S1.size (sem_inb d))).squeeze S_ squeezes_S1_S_
abbrev sendS (d : Fin 4) : DmaSem sig := (semAt cc0_scratch2 d).sem
abbrev recvS (d : Fin 4) : DmaSem sig := (semAt cc0_scratch3 d).sem

/-- A device's cells: its barrier (`none`), its four send semaphores (`false`), its four receive semaphores (`true`). -/
abbrev CellIx : Type := Option (Bool × Fin 4)

abbrev csem : CellIx → SemLoc sig
  | none => .reg barS
  | some (false, d) => .dma (sendS d)
  | some (true, d) => .dma (recvS d)

abbrev kcell (ck : Dev nD × CellIx) : GSem nD τ sig := ((ck.1 : Thread nD τ), csem ck.2)
abbrev barCell (c : Dev nD) : GSem nD τ sig := kcell (c, none)
abbrev sendCell (c : Dev nD) (d : Fin 4) : GSem nD τ sig := kcell (c, some (false, d))
abbrev recvCell (c : Dev nD) (d : Fin 4) : GSem nD τ sig := kcell (c, some (true, d))

theorem csem_injective : Function.Injective csem := by decide

theorem kcell_injective : Function.Injective (kcell : Dev nD × CellIx → GSem nD τ sig) := fun ⟨c, k⟩ ⟨c', k'⟩ h => by
  have h1 : c = c' := congrArg (fun g : GSem nD τ sig => g.1.1) h
  have h2 : k = k' := csem_injective (congrArg Prod.snd h)
  rw [h1, h2]

/-- Which of a device's cells a semaphore is, if any. -/
def ix (s : SemLoc sig) : Option CellIx :=
  [none, some (false, 0), some (false, 1), some (false, 2), some (false, 3), some (true, 0), some (true, 1), some (true, 2),
    some (true, 3)].find? fun k => csem k = s

theorem ix_csem (k : CellIx) : ix (csem k) = some k := by revert k; decide

/-- The credit of a transfer of one row. -/
abbrev N : ℕ := totM.view.dmaCredit
theorem N_pos : 0 < N := View.dmaCredit_pos _ (by decide)

/-! ## What the devices compute -/

/-- Device `c`'s block of `x` as it is staged. -/
def xstg (c : Dev nD) : (cc0_stg0_0 : Ref sig .tc).ty.Contents (Elt F) :=
  (win0_0.blk (0 : Fin 1)).view.read (Elt F) ((s₀ m ρ).mem ((c : Thread nD τ).loc main_arg0))

theorem x_inb (j : Fin 16) : ∀ a, (![256 * j.val, 0] : Fin 2 → ℕ) a + S256x1024.size a ≤ S4096x1024.size a := by
  revert j; decide

/-- The `j`-th 256 rows of a block. -/
abbrev xR (j : Fin 16) : Rect S4096x1024 := Rect.unit (s := S4096x1024) ![256 * j.val, 0] S256x1024.size (x_inb j)
def xb (c : Dev nD) (j : Fin 16) : Vec F S256x1024 .f32 := xM.view.readAt (Elt F) (xR j).toLoadRect (xstg m ρ c)
/-- The column sums of the `j`-th 256 rows. -/
def bs (c : Dev nD) (j : Fin 16) : FVec F S1x1024 .f32 := k0_pay1 (xb m ρ c j)
/-- The column sums of the whole block. -/
def totV (c : Dev nD) : FVec F S1x1024 .f32 :=
  k0_pay17 (bs m ρ c 0) (bs m ρ c 1) (bs m ρ c 2) (bs m ρ c 3) (bs m ρ c 4) (bs m ρ c 5) (bs m ρ c 6) (bs m ρ c 7)
    (bs m ρ c 8) (bs m ρ c 9) (bs m ρ c 10) (k0_pay12 (xb m ρ c 11)) (xb m ρ c 12) (xb m ρ c 13) (xb m ρ c 14) (xb m ρ c 15)

/-- A row of zeros. -/
def zrow : FVec F S1x1024 .f32 := broadcast S1x1024 (Scalar.ofBits .f32 0x00000000#32)
/-- What the device `d` places before `c` adds to `c`'s rows: its column sums, or nothing where there is no such device. -/
def part (c : Dev nD) (d : Fin 4) : FVec F S1x1024 .f32 := if c - d < c then totV m ρ (c - d) else zrow
/-- What device `c`'s rows start from. -/
def offV (c : Dev nD) : FVec F S1x1024 .f32 := addf (addf (addf zrow (part m ρ c 1)) (part m ρ c 2)) (part m ρ c 3)
/-- What the rows of the `j`-th 256 start from. -/
def offs (c : Dev nD) : ℕ → FVec F S1x1024 .f32
  | 0 => offV m ρ c
  | j + 1 => addf (offs c j) (bs m ρ c (Fin.ofNat 16 j))
/-- The `j`-th 256 rows of the result. -/
def blk (c : Dev nD) (j : Fin 16) : FVec F S256x1024 .f32 :=
  addf (matmul dot_S256x256_S256x1024_S256x1024_1_0_0_1_n_n none (k0_pay20 (F := F))
      (truncf .bf16 (shapeCast S256x1024 (xb m ρ c j) shapeCasts_S256x1024_S256x1024) bitsLt_bf16_f32)
      (constant S256x1024 .f32 0x00000000#32))
    (broadcastTo S256x1024 (offs m ρ c j.val) broadcasts_S1x1024_S256x1024)
/-- The result on device `c`. -/
def outAt (c : Dev nD) : (cc0_stg1_0 : Ref sig .tc).ty.Contents (Elt F) :=
  oM.view.writes (Elt F) (View.junk oM.view)
    (View.tilePieces S256x1024.size (fun i : Fin 16 => ![256 * i.val, 0]) x_inb (fun i => blk m ρ c i) 16 le_rfl)

/-! ## Points-tos -/

def totPts (c : Dev nD) (q : PosShare TreeShare) (f : Buf (Elt F) (totM.view.loc (c : Thread nD τ))) : sProp 𝕄 :=
  totM.view.loc (c : Thread nD τ) ↦[totM.view.set]{q} f
def slotPts (c : Dev nD) (d : Fin 4) (f : Buf (Elt F) ((slotM d).view.loc (c : Thread nD τ))) : sProp 𝕄 :=
  (slotM d).view.loc (c : Thread nD τ) ↦[(slotM d).view.set]{fullShare} f

/-- The share of the sums' row that the transfer to the device `d` places on takes. -/
def shr (d : Fin 4) : PosShare TreeShare :=
  if d = 1 then fullShare.left else if d = 2 then fullShare.right.left else fullShare.right.right

omit [FloatOps F] in
instance totPts_storable (c : Dev nD) (q) (f) : BI.Storable (upEmb : UEmb _ 𝕄) (totPts (F := F) c q f) := by unfold totPts; infer_instance
omit [FloatOps F] in
instance slotPts_storable (c : Dev nD) (d) (f) : BI.Storable (upEmb : UEmb _ 𝕄) (slotPts (F := F) c d f) := by unfold slotPts; infer_instance

/-- The sums' row on device `c`, at contents of the buffer. -/
def totC (c : Dev nD) : Buf (Elt F) (totM.view.loc (c : Thread nD τ)) := totV m ρ c

/-! ## The schedule -/

/-- What device `p`'s entry signal hands device `c`: if `p` comes after `c`, the slot `c` will write. -/
def barPay (c p : Dev nD) : sProp 𝕄 := if c < p then iprop(∃ f, slotPts p (p - c) f) else iprop(emp)
/-- What a landed transfer hands device `c`: slot `d` holding the sums of the device `d` places before. -/
def recvPay (c : Dev nD) (d : Fin 4) : sProp 𝕄 := iprop(∃ f, ⌜(slotM d).view.read (Elt F) f = totV m ρ (c - d)⌝ ∗ slotPts c d f)
/-- What a transfer that has left hands back: the share of the sums' row it took. -/
def sendPay (c : Dev nD) (d : Fin 4) : sProp 𝕄 := totPts c (shr d) (totC m ρ c)

abbrev dutiesOf (c : Dev nD) : CellIx → Finset (Fin 4)
  | none => Finset.univ
  | some (false, d) => if c < c + d then {0} else ∅
  | some (true, d) => if c - d < c then {0} else ∅
abbrev amountOf : CellIx → ℕ
  | none => 1
  | some _ => N
abbrev payOf (c : Dev nD) : CellIx → Fin 4 → sProp 𝕄
  | none, p => barPay c p
  | some (false, d), _ => sendPay m ρ c d
  | some (true, d), _ => recvPay m ρ c d

/-- One round: a barrier cell has one unit from each device; the send cell `d` of a device that has a device `d`
    places after it, and the receive cell `d` of one that has a device `d` places before it, one row's credit. -/
def Rd : Rounds.Schedule (GSem nD τ sig) (Fin 4) 𝕄 where
  duties g r := if r = 0 ∧ g.1.2 = .tc then (match ix g.2 with | some k => dutiesOf g.1.1 k | none => ∅) else ∅
  unitless _ := False
  amount g _ _ := match ix g.2 with | some k => amountOf k | none => 1
  payload g _ p := match ix g.2 with | some k => payOf m ρ g.1.1 k p | none => iprop(emp)
  amount_pos g _ _ _ := by
    rcases ix g.2 with _ | _ | _
    · exact Nat.one_pos
    · exact Nat.one_pos
    · exact N_pos

instance Rd_payload_storable (g : GSem nD τ sig) (r : ℕ) (p : Fin 4) :
    BI.Storable (upEmb : UEmb _ 𝕄) ((Rd (F := F) m ρ).payload g r p) := by
  show BI.Storable upEmb (match ix g.2 with | some k => payOf m ρ g.1.1 k p | none => iprop(emp))
  rcases ix g.2 with _ | _ | ⟨_ | _, d⟩
  · infer_instance
  · show BI.Storable upEmb (barPay g.1.1 p)
    unfold barPay; split <;> infer_instance
  · show BI.Storable upEmb (sendPay m ρ g.1.1 d)
    unfold sendPay; infer_instance
  · show BI.Storable upEmb (recvPay m ρ g.1.1 d)
    unfold recvPay; infer_instance

section Sched
variable (c : Dev nD) (k : CellIx) (d : Fin 4)

theorem duties_eq : (Rd (F := F) m ρ).duties (kcell (c, k)) 0 = dutiesOf c k := by
  have h : (0 : ℕ) = 0 ∧ (kcell (c, k)).1.2 = .tc := ⟨rfl, rfl⟩
  show (if (0 : ℕ) = 0 ∧ (kcell (c, k)).1.2 = .tc then (match ix (csem k) with | some k => dutiesOf c k | none => ∅) else ∅) = _
  rw [if_pos h, ix_csem]
theorem amount_eq (p : Fin 4) : (Rd (F := F) m ρ).amount (kcell (c, k)) 0 p = amountOf k := by
  show (match ix (csem k) with | some k => amountOf k | none => 1) = _
  rw [ix_csem]
theorem payload_eq (p : Fin 4) : (Rd (F := F) m ρ).payload (kcell (c, k)) 0 p = payOf m ρ c k p := by
  show (match ix (csem k) with | some k => payOf m ρ c k p | none => iprop(emp)) = _
  rw [ix_csem]

/-- The rounds a cell goes through. -/
def rounds (c : Dev nD) : CellIx → ℕ
  | none => 1
  | some (false, d) => if c < c + d then 1 else 0
  | some (true, d) => if c - d < c then 1 else 0

/-- From its last round on a cell has no duty. -/
theorem duties_after : ∀ r, rounds c k ≤ r → (Rd (F := F) m ρ).duties (kcell (c, k)) r = ∅ := fun r hr => by
  by_cases h0 : r = 0
  · subst h0
    rw [duties_eq]
    rcases k with _ | ⟨_ | _, d⟩
    · exact absurd hr (Nat.not_succ_le_zero 0)
    · by_cases h : c < c + d
      · rw [rounds, if_pos h] at hr; exact absurd hr (by decide)
      · exact if_neg h
    · by_cases h : c - d < c
      · rw [rounds, if_pos h] at hr; exact absurd hr (by decide)
      · exact if_neg h
  · exact if_neg fun h => h0 h.1

theorem expect_bar : (Rd (F := F) m ρ).expect (barCell c) 0 = 4 := by
  unfold Schedule.expect Schedule.amountOf
  rw [duties_eq, Finset.sum_congr rfl fun p _ => amount_eq m ρ c none p]
  rfl
theorem expect_send (h : c < c + d) : (Rd (F := F) m ρ).expect (sendCell c d) 0 = N := by
  unfold Schedule.expect Schedule.amountOf
  rw [duties_eq, show dutiesOf c (some (false, d)) = {0} from if_pos h, Finset.sum_singleton, amount_eq]
theorem expect_recv (h : c - d < c) : (Rd (F := F) m ρ).expect (recvCell c d) 0 = N := by
  unfold Schedule.expect Schedule.amountOf
  rw [duties_eq, show dutiesOf c (some (true, d)) = {0} from if_pos h, Finset.sum_singleton, amount_eq]

/-- What a device takes from its barrier cell: what every device's signal handed it. -/
theorem rest_bar : bigSep ((Rd (F := F) m ρ).duties (barCell c) 0 \ ∅) (fun p => (Rd (F := F) m ρ).payload (barCell c) 0 p)
    = bigSep Finset.univ fun p : Fin 4 => barPay c p := by
  rw [Finset.sdiff_empty, duties_eq]
  exact bigSep_congr fun p _ => payload_eq m ρ c none p
theorem rest_send (h : c < c + d) : bigSep ((Rd (F := F) m ρ).duties (sendCell c d) 0 \ ∅) (fun p => (Rd (F := F) m ρ).payload (sendCell c d) 0 p)
    = sendPay m ρ c d := by
  rw [Finset.sdiff_empty, duties_eq, show dutiesOf c (some (false, d)) = {0} from if_pos h, bigSep_singleton, payload_eq]
theorem rest_recv (h : c - d < c) : bigSep ((Rd (F := F) m ρ).duties (recvCell c d) 0 \ ∅) (fun p => (Rd (F := F) m ρ).payload (recvCell c d) 0 p)
    = recvPay m ρ c d := by
  rw [Finset.sdiff_empty, duties_eq, show dutiesOf c (some (true, d)) = {0} from if_pos h, bigSep_singleton, payload_eq]

end Sched

/-! ## What each device owes at launch; the levels -/

/-- The credit device `c` owes the receive cell of the device `d` places after it, if there is one. -/
def due (c : Dev nD) (d : Fin 4) : CellTallies nD τ sig Unit := if c < c + d then tallyAt (recvCell (c + d) d) () N else 0
/-- What device `c` owes once its signals are out, in the reverse of the order it is paid in; -/
def O₁ (c : Dev nD) : CellTallies nD τ sig Unit := 0 + due c 3 + due c 2 + due c 1
/-- and at launch: a unit to every barrier cell as well. -/
def O₀ (c : Dev nD) : CellTallies nD τ sig Unit :=
  O₁ c + tallyAt (barCell 3) () 1 + tallyAt (barCell 2) () 1 + tallyAt (barCell 1) () 1 + tallyAt (barCell 0) () 1

def L (g : GSem nD τ sig) : Finset Unit := if g.1.2 = .tc then {()} else ∅
/-- Barrier cells at 1, receive cells at 2, every other at 0. -/
def lv (g : GSem nD τ sig) (_ : Unit) : ℕ := match ix g.2 with | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by
  show (match ix (csem none) with | some none => 1 | some (some (true, _)) => 2 | _ => 0) = 1
  rw [ix_csem]
theorem lv_recv (c : Dev nD) (d : Fin 4) (u : Unit) : lv (recvCell c d) u = 2 := by
  show (match ix (csem (some (true, d))) with | some none => 1 | some (some (true, _)) => 2 | _ => 0) = 2
  rw [ix_csem]

/-- A sum of debts is a debt in one of its two parts. -/
theorem pos_add {A B : CellTallies nD τ sig Unit} {g : GSem nD τ sig} {u : Unit} (h : 0 < (A + B) g u) : 0 < A g u ∨ 0 < B g u := by
  rw [Pi.add_apply, Finsupp.add_apply] at h; omega
theorem pos_tally {g g' : GSem nD τ sig} {k : ℕ} {u : Unit} (h : 0 < (tallyAt g' () k : CellTallies nD τ sig Unit) g u) : g = g' := by
  rw [tallyAt_apply] at h
  by_contra hn
  rw [if_neg fun h' => hn h'.1] at h; exact Nat.lt_irrefl 0 h
theorem pos_due {c : Dev nD} {d : Fin 4} {g : GSem nD τ sig} {u : Unit} (h : 0 < due c d g u) : ∃ c' d', g = recvCell c' d' := by
  unfold due at h
  split at h
  · exact ⟨_, _, pos_tally h⟩
  · exact absurd h (Nat.lt_irrefl 0)
theorem O₁_pos {c : Dev nD} {g : GSem nD τ sig} {u : Unit} (h : 0 < O₁ c g u) : ∃ c' d', g = recvCell c' d' := by
  unfold O₁ at h
  rcases pos_add h with h | h
  · rcases pos_add h with h | h
    · rcases pos_add h with h | h
      · exact absurd h (Nat.lt_irrefl 0)
      · exact pos_due h
    · exact pos_due h
  · exact pos_due h
theorem O₀_pos {c : Dev nD} {g : GSem nD τ sig} {u : Unit} (h : 0 < O₀ c g u) : (∃ c', g = barCell c') ∨ ∃ c' d', g = recvCell c' d' := by
  unfold O₀ at h
  rcases pos_add h with h | h
  · rcases pos_add h with h | h
    · rcases pos_add h with h | h
      · rcases pos_add h with h | h
        · exact .inr (O₁_pos h)
        · exact .inl ⟨_, pos_tally h⟩
      · exact .inl ⟨_, pos_tally h⟩
    · exact .inl ⟨_, pos_tally h⟩
  · exact .inl ⟨_, pos_tally h⟩

/-- A wait on a semaphore that is no cell of the devices' is below everything a device owes. -/
theorem mayWait_stage (c : Dev nD) (q : DmaSem sig) (hq : ix (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, rfl⟩ | ⟨_, _, rfl⟩ <;> exact Finset.mem_singleton_self _)
      (fun p hp => by rw [Finset.mem_singleton.mp hp]; dsimp only [lv]; rw [hq])
      (fun g u hg => by
        rcases O₀_pos hg with ⟨_, rfl⟩ | ⟨_, _, rfl⟩
        · rw [lv_bar]; decide
        · rw [lv_recv]; decide)
  · rw [MayWait_zero]; iintro -; iempintro

/-- At its barrier wait a device owes receive cells only, which lie above barrier cells. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨_, _, rfl⟩ := O₁_pos hg; exact Finset.mem_singleton_self _)
    (fun p hp => by rw [Finset.mem_singleton.mp hp]; exact le_of_eq (lv_bar c ()))
    (fun g u hg => by obtain ⟨_, _, rfl⟩ := O₁_pos hg; rw [lv_recv]; decide)

/-! ## What a device starts from and ends with -/

/-- The invariants of all the cells, under the names `K`, and that each has reached its round 0. -/
def records (K : Dev nD × CellIx → ℕ) : sProp 𝕄 :=
  iprop((bigSep Finset.univ fun ck : Dev nD × CellIx => cellInv ER (Rd m ρ) (K ck) (kcell ck))
    ∗ bigSep Finset.univ fun ck : Dev nD × CellIx => reached ER (kcell ck) 0)

instance records_persistent (K : Dev nD × CellIx → ℕ) : BI.Persistent (records m ρ K) := by unfold records; infer_instance

theorem inv_at (K : Dev nD × CellIx → ℕ) (ck : Dev nD × CellIx) : records m ρ K ⊢ cellInv ER (Rd m ρ) (K ck) (kcell ck) := by
  have h : (bigSep Finset.univ fun ck : Dev nD × CellIx => (cellInv ER (Rd m ρ) (K ck) (kcell ck) : sProp 𝕄))
      ⊢ cellInv ER (Rd m ρ) (K ck) (kcell ck) := bigSep_elim (Finset.mem_univ ck)
  unfold records
  iintro ⟨#H, -⟩
  iapply h; iexact H
theorem reached_at (K : Dev nD × CellIx → ℕ) (ck : Dev nD × CellIx) : records m ρ K ⊢ reached ER (kcell ck) 0 := by
  have h : (bigSep Finset.univ fun ck : Dev nD × CellIx => (reached ER (kcell ck) 0 : sProp 𝕄)) ⊢ reached ER (kcell ck) 0 :=
    bigSep_elim (Finset.mem_univ ck)
  unfold records
  iintro ⟨-, #H⟩
  iapply h; iexact H

/-- Device `c`'s place at the start of each of its cells. -/
def posns (c : Dev nD) : sProp 𝕄 := bigSep Finset.univ fun k : CellIx => atPos ER (kcell (c, k)) 0 ∅ 0
/-- The duties device `c` pays: its unit of every barrier, its transfers' leaving and their landing. -/
def payToks (c : Dev nD) : sProp 𝕄 :=
  iprop((bigSep Finset.univ fun p : Dev nD => dutyTok ER (barCell p) 0 c)
    ∗ (bigSep Finset.univ fun d : Fin 4 => dutyTok ER (sendCell c d) 0 0)
    ∗ bigSep Finset.univ fun d : Fin 4 => dutyTok ER (recvCell (c + d) d) 0 0)
/-- The credit device `c` waits on its receive cell `d` with, if there is a device `d` places before it. -/
def recvCred (c : Dev nD) (d : Fin 4) : sProp 𝕄 := if c - d < c then cred (tallyAt (recvCell c d) () N) else iprop(emp)
def creds (c : Dev nD) : sProp 𝕄 :=
  iprop(cred (tallyAt (barCell c) () 4) ∗ bigSep Finset.univ fun d : Fin 4 => recvCred c d)

def ghost (K : Dev nD × CellIx → ℕ) (c : Dev nD) : sProp 𝕄 := iprop(records m ρ K ∗ posns c ∗ payToks c)

/-- What device `c`'s body starts from beside its buffers. -/
def start (c : Dev nD) : sProp 𝕄 := iprop((∃ K, ghost m ρ K c) ∗ creds c ∗ levAts L lv)

/-- The two scratch buffers, at some contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def Φ₀ (c : Dev nD) : sProp 𝕄 := iprop(start m ρ c ∗ scratch c)
/-- After the body: the scratch buffers, and every cell closed with its counter at zero. -/
def Φ₁ (c : Dev nD) : sProp 𝕄 := iprop(scratch c ∗ bigSep Finset.univ fun k : CellIx => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.ScanProof

end
-- ==== Proof.Steps.lean ====
/-
The statements the kernel guards: a transfer to the device `d` places on, the wait for the transfer from the device
`d` places back, the wait for a transfer to have left. Each is stated once, for any device and any `d`, with one
account of what is held before and after whether or not the guard holds.
-/
module

public import proofs.«01_k».proof.Proof.Protocol

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ)

/-- What device `c` owes, whatever it has waited for. -/
def owing (c : Dev nD) (O : CellTallies nD τ sig Unit) : sProp 𝕄 := iprop(∃ W, owes (c : Thread nD τ) O W)

/-- After the guarded transfer: the credit of its leaving, or the share of the sums' row it did not take. -/
def sentSt (c : Dev nD) (d : Fin 4) : sProp 𝕄 :=
  if c < c + d then cred (tallyAt (sendCell c d) () N) else totPts c (shr d) (totC m ρ c)
/-- Slot `d` where no transfer is to land in it. -/
def kept (c : Dev nD) (d : Fin 4) : sProp 𝕄 := if c - d < c then iprop(emp) else iprop(∃ f, slotPts c d f)
/-- Slot `d` after the guarded wait: it holds the sums of the device `d` places back, if there is one. -/
def got (c : Dev nD) (d : Fin 4) : sProp 𝕄 :=
  iprop(∃ f, ⌜c - d < c → (slotM d).view.read (Elt F) f = totV m ρ (c - d)⌝ ∗ slotPts c d f)
/-- Device `c`'s place at its cell `k` once it is done with it. -/
def donePos (c : Dev nD) (k : CellIx) : sProp 𝕄 := atPos ER (kcell (c, k)) (rounds c k) ∅ 0

theorem add_sub_self (c d : Fin 4) : c + d - c = d := by revert c d; decide
theorem sub_of_add (c d : Fin 4) : c + d - d = c := by revert c d; decide

/-- A row written over a slot is read back from it. -/
theorem slot_write (c : Dev nD) (d : Fin 4) (fd : Buf (Elt F) ((slotM d).view.loc (c : Thread nD τ))) (w : S1x1024.Idx → Elt F .f32) :
    (slotM d).view.read (Elt F) ((slotM d).view.write (Elt F) fd w Finset.univ) = w := View.read_write_univ _ _

/-- The transfer itself, to the device `d` places on. -/
theorem wp_send_row (c n : Dev nD) (d : Fin 4) (hc : c < c + d) (hn : n = c + d)
    {hsc : (slotM d : Memref sig (Dev.tc n : Thread nD τ).2.kind .vmem S1x1024 .f32).view.ref.isScScratch = false}
    {hsrc : totM.view.WordExact} {hdst : (slotM d).view.WordExact}
    {hsem : DmaTarget.Typed .vmem (.dma (recvS d)) (.remote (Dev.tc n : Thread nD τ) (slotM d) (.dma (sendS d)) hsc)}
    {α : Type} {Q : α → sProp 𝕄} {k : PUnit → Prog (TpuEff nD τ sig (Elt F) Λ₀ .tc) α}
    (fn : Buf (Elt F) ((slotM d).view.loc (c + d : Thread nD τ))) (W : Waits sig Unit) (O : CellTallies nD τ sig Unit) :
    iprop(cellInv ER (Rd m ρ) (K (c, some (false, d))) (sendCell c d) ∗ cellInv ER (Rd m ρ) (K (c + d, some (true, d))) (recvCell (c + d) d)
        ∗ totPts c (shr d) (totC m ρ c) ∗ slotPts (c + d) d fn
        ∗ owes (c : Thread nD τ) (O + tallyAt (recvCell (c + d) d) () N) W
        ∗ dutyTok ER (sendCell c d) 0 0 ∗ reached ER (sendCell c d) 0
        ∗ dutyTok ER (recvCell (c + d) d) 0 0 ∗ reached ER (recvCell (c + d) d) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma totM (.remote (Dev.tc n : Thread nD τ) (slotM d) (.dma (sendS d)) hsc) (.dma (recvS d)) hsrc hdst hsem) k) Q) := by
  subst hn
  unfold totPts slotPts
  exact Rounds.wp_send_pointsTo 𝒱₀ ER (Rd m ρ) (c : Thread nD τ) none (κ₁ := K (c, some (false, d))) (κ₂ := K (c + d, some (true, d)))
    (r₁ := 0) (r₂ := 0) (d₁ := 0) (d₂ := 0) (fd := fn)
    (by rw [duties_eq m ρ c (some (false, d)), show dutiesOf c (some (false, d)) = {0} from if_pos hc]; exact Finset.mem_singleton_self _)
    (by rw [duties_eq m ρ (c + d) (some (true, d)), show dutiesOf (c + d) (some (true, d)) = {0} from if_pos (by rw [sub_of_add]; exact hc)]
        exact Finset.mem_singleton_self _)
    () () N rfl (amount_eq m ρ c (some (false, d)) 0) (amount_eq m ρ (c + d) (some (true, d)) 0) O rfl (W := W)
    (by rw [payload_eq m ρ c (some (false, d))]; exact BI.Entails.refl _)
    (by
      rw [payload_eq m ρ (c + d) (some (true, d))]
      show _ ⊢ recvPay m ρ (c + d) d
      unfold recvPay slotPts
      rw [sub_of_add]
      iintro H
      iexists _
      isplitr
      · ipureintro; exact slot_write (c + d) d fn (totV m ρ c)
      · iexact H)

/-- The transfer of the row of sums into slot `d` of another device, where `P` holds, and what follows. -/
def sendIf {α : Type} (d : Fin 4) (P : Prop) [Decidable P] (n : P → Dev nD) (k : Prog (TpuEff nD τ sig (Elt F) Λ₀ .tc) α) : Prog (TpuEff nD τ sig (Elt F) Λ₀ .tc) α :=
  if h : P then .op (.enqueueDma totM (.remote (Dev.tc (n h) : Thread nD τ) (slotM d) (.dma (sendS d)) rfl) (.dma (recvS d))
    (Memref.isWhole_whole cc0_scratch0).wordExact ((View.wordExact_bits rfl).reshape _ _) ⟨⟨rfl, Or.inl rfl⟩, trivial⟩) (fun _ => k) else k

/-- The wait for a row to arrive in slot `d`, where `P` holds, and what follows. -/
def recvIf {α : Type} (d : Fin 4) (P : Prop) [Decidable P] (k : Prog (TpuEff nD τ sig (Elt F) Λ₀ .tc) α) : Prog (TpuEff nD τ sig (Elt F) Λ₀ .tc) α :=
  if h : P then .op (.waitDma2 (recvS d) totM (slotM d) (Memref.isWhole_whole cc0_scratch0).wordExact ((View.wordExact_bits rfl).reshape _ _)) (fun _ => k) else k

/-- The wait for the row to have left for slot `d`, where `P` holds, and what follows. -/
def leftIf {α : Type} (d : Fin 4) (P : Prop) [Decidable P] (k : Prog (TpuEff nD τ sig (Elt F) Λ₀ .tc) α) : Prog (TpuEff nD τ sig (Elt F) Λ₀ .tc) α :=
  if h : P then .op (.waitDma2 (sendS d) (slotM d) totM ((View.wordExact_bits rfl).reshape _ _) (Memref.isWhole_whole cc0_scratch0).wordExact) (fun _ => k) else k

/-- The guarded transfer. -/
theorem wp_send_if (c : Dev nD) (d : Fin 4) {P : Prop} [Decidable P] (hP : P ↔ c < c + d) (n : P → Dev nD) (hn : ∀ h, n h = c + d)
    {α : Type} {Q : α → sProp 𝕄} {k : Prog (TpuEff nD τ sig (Elt F) Λ₀ .tc) α} (O : CellTallies nD τ sig Unit) :
    iprop(records m ρ K ∗ totPts c (shr d) (totC m ρ c) ∗ barPay c (c + d) ∗ owing c (O + due c d)
        ∗ dutyTok ER (sendCell c d) 0 0 ∗ dutyTok ER (recvCell (c + d) d) 0 0)
      ⊢ iprop(((sentSt m ρ c d ∗ owing c O) -∗ wp frame (wpE (defs₀ (F := F)) 𝒱₀ (c : Thread nD τ) none) Set.univ k Q)
          -∗ wp frame (wpE (defs₀ (F := F)) 𝒱₀ (c : Thread nD τ) none) Set.univ
              (sendIf d P n k) Q) := by
  unfold sendIf sentSt barPay due owing
  by_cases h : c < c + d
  · rw [if_pos h, if_pos h, if_pos h, dif_pos (hP.mpr h), add_sub_self]
    iintro ⟨#HR, Ht, ⟨%fn, Hs⟩, ⟨%W, HO⟩, HtS, HtR⟩ Hk
    iapply (wp_send_row m ρ K c _ d h (hn _) fn W O) $$ [Ht Hs HO HtS HtR]
    · isplitr; · iapply (inv_at m ρ K (c, some (false, d))); iexact HR
      isplitr; · iapply (inv_at m ρ K (c + d, some (true, d))); iexact HR
      isplitl [Ht]; · iexact Ht
      isplitl [Hs]; · iexact Hs
      isplitl [HO]; · iexact HO
      isplitl [HtS]; · iexact HtS
      isplitr; · iapply (reached_at m ρ K (c, some (false, d))); iexact HR
      isplitl [HtR]; · iexact HtR
      iapply (reached_at m ρ K (c + d, some (true, d))); iexact HR
    iintro ⟨Hc, HO⟩
    iapply Hk
    isplitl [Hc]; · iexact Hc
    iexists W; iexact HO
  · rw [if_neg h, if_neg h, if_neg h, dif_neg (fun h' => h (hP.mp h')), add_zero]
    iintro ⟨#HR, Ht, -, HO, -, -⟩ Hk
    iapply Hk
    isplitl [Ht]; · iexact Ht
    iexact HO

/-- The guarded wait for the transfer from the device `d` places back. -/
theorem wp_recv_if (c : Dev nD) (d : Fin 4) {P : Prop} [Decidable P] (hP : P ↔ c - d < c)
    {α : Type} {Q : α → sProp 𝕄} {k : Prog (TpuEff nD τ sig (Elt F) Λ₀ .tc) α} :
    iprop(records m ρ K ∗ recvCred c d ∗ owing c 0 ∗ atPos ER (recvCell c d) 0 ∅ 0 ∗ kept c d)
      ⊢ iprop(((owing c 0 ∗ donePos c (some (true, d)) ∗ got m ρ c d) -∗ wp frame (wpE (defs₀ (F := F)) 𝒱₀ (c : Thread nD τ) none) Set.univ k Q)
          -∗ wp frame (wpE (defs₀ (F := F)) 𝒱₀ (c : Thread nD τ) none) Set.univ
              (recvIf d P k) Q) := by
  unfold recvIf recvCred kept got owing donePos
  rw [show rounds c (some (true, d)) = if c - d < c then 1 else 0 from rfl]
  by_cases h : c - d < c
  · rw [if_pos h, if_pos h, if_pos h, dif_pos (hP.mpr h)]
    iintro ⟨#HR, Hc, ⟨%W, HO⟩, Hat, -⟩ Hk
    iapply (Rounds.wp_wait_rest_token 𝒱₀ ER (Rd m ρ) (c : Thread nD τ) none (κ := K (c, some (true, d)))
        (wpE_waitDma2_eq 𝒱₀ (c : Thread nD τ) none Set.univ) (Set.mem_univ _) () (O := 0) (W := W) (R := 0) (m := 0) (T := ∅)
        (by rw [Nat.zero_add, expect_recv m ρ c d h])) $$ [Hc HO Hat]
    · isplitr; · iapply (inv_at m ρ K (c, some (true, d))); iexact HR
      isplitl [Hc]; · iexact Hc
      isplitl [HO]; · iexact HO
      isplitr; · rw [MayWait_zero]; iempintro
      iexact Hat
    iintro ⟨HO, Hat, -, Hpay⟩
    ihave Hp := (Entails.of_eq (rest_recv m ρ c d h)) $$ Hpay
    unfold recvPay
    icases Hp with ⟨%f, %hf, Hs⟩
    iapply Hk
    isplitl [HO]; · iexists _; iexact HO
    isplitl [Hat]; · iexact Hat
    iexists f
    isplitr; · ipureintro; exact fun _ => hf
    iexact Hs
  · rw [if_neg h, if_neg h, if_neg h, dif_neg (fun h' => h (hP.mp h'))]
    iintro ⟨#HR, -, HO, Hat, ⟨%f, Hs⟩⟩ Hk
    iapply Hk
    isplitl [HO]; · iexact HO
    isplitl [Hat]; · iexact Hat
    iexists f
    isplitr; · ipureintro; exact fun h' => absurd h' h
    iexact Hs

/-- The guarded wait for the transfer to the device `d` places on to have left. -/
theorem wp_left_if (c : Dev nD) (d : Fin 4) {P : Prop} [Decidable P] (hP : P ↔ c < c + d)
    {α : Type} {Q : α → sProp 𝕄} {k : Prog (TpuEff nD τ sig (Elt F) Λ₀ .tc) α} :
    iprop(records m ρ K ∗ sentSt m ρ c d ∗ owing c 0 ∗ atPos ER (sendCell c d) 0 ∅ 0)
      ⊢ iprop(((owing c 0 ∗ donePos c (some (false, d)) ∗ totPts c (shr d) (totC m ρ c)) -∗ wp frame (wpE (defs₀ (F := F)) 𝒱₀ (c : Thread nD τ) none) Set.univ k Q)
          -∗ wp frame (wpE (defs₀ (F := F)) 𝒱₀ (c : Thread nD τ) none) Set.univ
              (leftIf d P k) Q) := by
  unfold leftIf sentSt owing donePos
  rw [show rounds c (some (false, d)) = if c < c + d then 1 else 0 from rfl]
  by_cases h : c < c + d
  · rw [if_pos h, if_pos h, dif_pos (hP.mpr h)]
    iintro ⟨#HR, Hc, ⟨%W, HO⟩, Hat⟩ Hk
    iapply (Rounds.wp_wait_rest_token 𝒱₀ ER (Rd m ρ) (c : Thread nD τ) none (κ := K (c, some (false, d)))
        (wpE_waitDma2_eq 𝒱₀ (c : Thread nD τ) none Set.univ) (Set.mem_univ _) () (O := 0) (W := W) (R := 0) (m := 0) (T := ∅)
        (by rw [Nat.zero_add, expect_send m ρ c d h])) $$ [Hc HO Hat]
    · isplitr; · iapply (inv_at m ρ K (c, some (false, d))); iexact HR
      isplitl [Hc]; · iexact Hc
      isplitl [HO]; · iexact HO
      isplitr; · rw [MayWait_zero]; iempintro
      iexact Hat
    iintro ⟨HO, Hat, -, Hpay⟩
    ihave Hp := (Entails.of_eq (rest_send m ρ c d h)) $$ Hpay
    unfold sendPay
    iapply Hk
    isplitl [HO]; · iexists _; iexact HO
    isplitl [Hat]; · iexact Hat
    iexact Hp
  · rw [if_neg h, if_neg h, dif_neg (fun h' => h (hP.mp h'))]
    iintro ⟨#HR, Ht, HO, Hat⟩ Hk
    iapply Hk
    isplitl [HO]; · iexact HO
    isplitl [Hat]; · iexact Hat
    iexact Ht

end Cert.ScanProof

end
-- ==== Proof.Slots.lean ====
/-
The slots of the landing buffer: that they are disjoint, how they are dealt to the devices' entry signals, what a
device makes of what it finds in them, and the guards of the kernel in terms of the devices' order.
-/
module

public import proofs.«01_k».proof.Proof.Steps
public import Idealize.ShloMosaic.Lib.ViewIndex

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ)

/-! ## The slots of the landing buffer -/

omit [FloatOps F] in
theorem slot_set (d : Fin 4) : (slotM d).view.set = (commM.access (slotR d)).set := View.set_reshape _ _

omit [FloatOps F] in
theorem slots_disjoint (d d' : Fin 4) (h : d ≠ d') : Disjoint (slotM d).view.set (slotM d').view.set := by
  rw [slot_set, slot_set]
  refine View.disjoint_slice ?_
  refine Rect.disjoint_of_separated (slotR d) (slotR d') (0 : Fin 3) ?_
  have hv : d.val ≠ d'.val := fun e => h (Fin.ext e)
  show (1 = 0 ∨ d.val + 1 * (1 - 1) < d'.val) ∨ (1 = 0 ∨ d'.val + 1 * (1 - 1) < d.val)
  omega

/-- The elements of the landing buffer that slot `d` is. -/
def slotI (c : Dev nD) (d : Fin 4) : Finset (Idx ((c : Thread nD τ).loc cc0_scratch1)) := (slotM d).view.set

theorem slotI_disjoint (c : Dev nD) (d d' : Fin 4) (h : d ≠ d') : Disjoint (slotI c d) (slotI c d') := slots_disjoint d d' h

theorem slotPts_eq (c : Dev nD) (d : Fin 4) (f : Buf (Elt F) ((c : Thread nD τ).loc cc0_scratch1)) :
    slotPts (F := F) c d f = (((c : Thread nD τ).loc cc0_scratch1) ↦[slotI c d]{fullShare} f) := rfl

/-- The four slots of device `c`'s landing buffer, each at some contents. -/
def slots (c : Dev nD) : sProp 𝕄 :=
  bigSep Finset.univ fun d : Fin 4 => iprop(∃ f : Buf (Elt F) ((c : Thread nD τ).loc cc0_scratch1), slotPts (F := F) c d f)
/-- What lies outside the slots. -/
def slotRest (c : Dev nD) : sProp 𝕄 :=
  iprop(∃ f : Buf (Elt F) ((c : Thread nD τ).loc cc0_scratch1),
    ((c : Thread nD τ).loc cc0_scratch1) ↦[Ring.restOf (slotI c)]{fullShare} f)

/-- The landing buffer is its four slots and what lies outside them. -/
theorem comm_split (c : Dev nD) :
    (iprop(∃ f : Buf (Elt F) ((c : Thread nD τ).loc cc0_scratch1), ((c : Thread nD τ).loc cc0_scratch1) ↦{fullShare} f) : sProp 𝕄)
      ⊢ iprop(slots (F := F) c ∗ slotRest (F := F) c) := by
  unfold slots slotRest
  simp only [slotPts_eq]
  exact Ring.fam_split_ex (slotI c) (slotI_disjoint c)

/-- The four slots and what lies outside them are the landing buffer. -/
theorem comm_join (c : Dev nD) :
    iprop(slots (F := F) c ∗ slotRest (F := F) c)
      ⊢ (iprop(∃ f : Buf (Elt F) ((c : Thread nD τ).loc cc0_scratch1), ((c : Thread nD τ).loc cc0_scratch1) ↦{fullShare} f) : sProp 𝕄) := by
  unfold slots slotRest
  simp only [slotPts_eq]
  iintro ⟨Hs, ⟨%f, Hr⟩⟩
  iapply (Ring.fam_join (slotI c) (slotI_disjoint c) f)
  isplitl [Hs]; · iexact Hs
  iexists f; iexact Hr

/-- A place before `c` and the slot it writes on `c` name each other. -/
def slotOf (c : Fin 4) : Fin 4 ≃ Fin 4 where
  toFun p := c - p
  invFun d := c - d
  left_inv p := by revert c p; decide
  right_inv d := by revert c d; decide

theorem sub_sub_self' (c d : Fin 4) : c - (c - d) = d := by revert c d; decide

/-- The slots are dealt: to each device its signal hands the slot that device writes, and the others stay. -/
theorem deal (c : Dev nD) :
    slots (F := F) c
      ⊢ (iprop((bigSep Finset.univ fun p : Fin 4 => barPay (F := F) p c) ∗ bigSep Finset.univ fun d : Fin 4 => kept (F := F) c d) : sProp 𝕄) := by
  have h : (bigSep Finset.univ fun p : Fin 4 => barPay (F := F) p c) = bigSep Finset.univ fun d : Fin 4 => barPay (F := F) (c - d) c :=
    bigSep_univ_equiv (slotOf c) fun p => barPay (F := F) p c
  unfold slots
  rw [h, ← bigSep_sep']
  refine bigSep_mono fun d _ => ?_
  unfold barPay kept
  rw [sub_sub_self']
  by_cases hd : c - d < c
  · rw [if_pos hd, if_pos hd]
    show (_ : sProp 𝕄) ⊢ _
    iintro H
    isplitl [H]; · iexact H
    iempintro
  · rw [if_neg hd, if_neg hd]
    show (_ : sProp 𝕄) ⊢ _
    iintro H
    isplitr; · iempintro
    iexact H

/-- Loading slot `d`. -/
theorem wp_load_slot (c : Dev nD) (d : Fin 4) (f : Buf (Elt F) ((slotM d).view.loc (c : Thread nD τ))) {hl} {α : Type} {Q : α → sProp 𝕄}
    {k : Vec F S1x1x1024 .f32 → Prog (TpuEff nD τ sig (Elt F) Λ₀ .tc) α} :
    slotPts c d f ⊢ iprop((slotPts c d f -∗ wp frame (wpE (defs₀ (F := F)) 𝒱₀ (c : Thread nD τ) none) Set.univ (k ((commM.access (slotR d)).read (Elt F) f)) Q)
        -∗ wp frame (wpE (defs₀ (F := F)) 𝒱₀ (c : Thread nD τ) none) Set.univ (.op (.load commM (slotR d).toLoadRect hl) k) Q) := by
  unfold slotPts
  iintro H Hk
  iapply (wp_load_rect 𝒱₀ (c : Thread nD τ) none Set.univ (m := commM) (r := slotR d) (f := f) (by rw [slot_set])) $$ H
  iintro H
  iapply Hk; iexact H

omit [FloatOps F] in
/-- What is loaded from slot `d` is what it reads. -/
theorem slot_read (c : Dev nD) (d : Fin 4) (f : Buf (Elt F) ((slotM d).view.loc (c : Thread nD τ))) :
    shapeCast S1x1024 ((commM.access (slotR d)).read (Elt F) f : Vec F S1x1x1024 .f32) shapeCasts_S1x1x1024_S1x1024 = (slotM d).view.read (Elt F) f := rfl

/-! ## The kernel's word for a device, and its guards -/

/-- The place of device `c` along the axis, as the kernel computes it. -/
abbrev place (c : Dev nD) : BitVec 32 := Scalar.remsi (Scalar.divsi (Dev.word c) 1#32) 4#32

theorem after_1 (c : Dev nD) : k0_cond1 c = 1#1 ↔ c < c + 1 := by revert c; decide
theorem after_2 (c : Dev nD) : k0_cond2 c = 1#1 ↔ c < c + 2 := by revert c; decide
theorem after_3 (c : Dev nD) : k0_cond3 c = 1#1 ↔ c < c + 3 := by revert c; decide
theorem before_1 (c : Dev nD) : Scalar.cmpi .sge (place c) 1#32 = 1#1 ↔ c - 1 < c := by revert c; decide
theorem before_2 (c : Dev nD) : Scalar.cmpi .sge (place c) 2#32 = 1#1 ↔ c - 2 < c := by revert c; decide
theorem before_3 (c : Dev nD) : Scalar.cmpi .sge (place c) 3#32 = 1#1 ↔ c - 3 < c := by revert c; decide
/-- A truth value widened and compared with zero is that truth value. -/
theorem widened (b : BitVec 1) : Scalar.cmpi .ne (Scalar.extui b : BitVec 32) 0#32 = 1#1 ↔ b = 1#1 := by revert b; decide
theorem left_1 (c : Dev nD) : Scalar.cmpi .slt (Scalar.addi (place c) 1#32) 4#32 = 1#1 ↔ c < c + 1 := by revert c; decide
theorem left_2 (c : Dev nD) : Scalar.cmpi .slt (Scalar.addi (place c) 2#32) 4#32 = 1#1 ↔ c < c + 2 := by revert c; decide
theorem left_3 (c : Dev nD) : Scalar.cmpi .slt (Scalar.addi (place c) 3#32) 4#32 = 1#1 ↔ c < c + 3 := by revert c; decide

/-- What a device takes from slot `d`: the sums it holds, if there is a device `d` places before. -/
theorem taken (c : Dev nD) (d : Fin 4) (b : BitVec 1) (hb : b = 1#1 ↔ c - d < c) (f : Buf (Elt F) ((slotM d).view.loc (c : Thread nD τ)))
    (hf : c - d < c → (slotM d).view.read (Elt F) f = totV m ρ (c - d)) :
    Scalar.select b (shapeCast S1x1024 ((commM.access (slotR d)).read (Elt F) f : Vec F S1x1x1024 .f32) shapeCasts_S1x1x1024_S1x1024) (zrow (F := F))
      = part m ρ c d := by
  rw [slot_read c d f]
  unfold part Scalar.select
  by_cases h : c - d < c
  · rw [if_pos h, if_pos (show b = 1 from hb.mpr h), hf h]
  · rw [if_neg h, if_neg (show ¬ b = 1 from fun h' => h (hb.mp h'))]

/-- What a device's rows start from, out of the three slots as it finds them. -/
theorem off_eq (c : Dev nD) (f₁ : Buf (Elt F) ((slotM 1).view.loc (c : Thread nD τ))) (f₂ : Buf (Elt F) ((slotM 2).view.loc (c : Thread nD τ)))
    (f₃ : Buf (Elt F) ((slotM 3).view.loc (c : Thread nD τ)))
    (h₁ : c - 1 < c → (slotM 1).view.read (Elt F) f₁ = totV m ρ (c - 1)) (h₂ : c - 2 < c → (slotM 2).view.read (Elt F) f₂ = totV m ρ (c - 2))
    (h₃ : c - 3 < c → (slotM 3).view.read (Elt F) f₃ = totV m ρ (c - 3)) :
    k0_pay19 (k0_pay18 (place c) ((commM.access (slotR 1)).read (Elt F) f₁) ((commM.access (slotR 2)).read (Elt F) f₂))
      (Scalar.cmpi .sge (place c) 3#32) ((commM.access (slotR 3)).read (Elt F) f₃) = offV m ρ c := by
  unfold offV
  rw [← taken m ρ c 1 _ (before_1 c) f₁ h₁, ← taken m ρ c 2 _ (before_2 c) f₂ h₂, ← taken m ρ c 3 _ (before_3 c) f₃ h₃]
  rfl

end Cert.ScanProof

end
-- ==== Proof.Parts.lean ====
/-
The stretches of the kernel that only read the staged block, write the row of sums and write the result: what each
leaves and what it computes, for any device.
-/
module

public import proofs.«01_k».proof.Proof.Slots
public import Idealize.ShloMosaic.Lib.Ring.Trips

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ)

/-! ## The staged block and the result buffer -/

/-- The staged block of `x`, held whole. -/
def xPts (c : Dev nD) : sProp 𝕄 := xM.view.loc (c : Thread nD τ) ↦{fullShare} (xstg m ρ c : Buf (Elt F) (xM.view.loc (c : Thread nD τ)))

/-- The result buffer once its first `j` blocks of 256 rows are stored over contents `f`. -/
def upTo (c : Dev nD) (f : (cc0_stg1_0 : Ref sig .tc).ty.Contents (Elt F)) (j : ℕ) (hj : j ≤ 16) : (cc0_stg1_0 : Ref sig .tc).ty.Contents (Elt F) :=
  oM.view.writes (Elt F) f (View.tilePieces S256x1024.size (fun i : Fin 16 => ![256 * i.val, 0]) x_inb (fun i => blk m ρ c i) j hj)
/-- The result buffer at contents `f`. -/
def outPts (c : Dev nD) (f : (cc0_stg1_0 : Ref sig .tc).ty.Contents (Elt F)) : sProp 𝕄 :=
  oM.view.loc (c : Thread nD τ) ↦{fullShare} (f : Buf (Elt F) (oM.view.loc (c : Thread nD τ)))

/-- Loading the `j`-th 256 rows. -/
theorem wp_load_x (c : Dev nD) (j : Fin 16) {hl} {α : Type} {Q : α → sProp 𝕄} {k : Vec F S256x1024 .f32 → Prog (TpuEff nD τ sig (Elt F) Λ₀ .tc) α} :
    xPts m ρ c ⊢ iprop((xPts m ρ c -∗ wp frame (wpE (defs₀ (F := F)) 𝒱₀ (c : Thread nD τ) none) Set.univ (k (xb m ρ c j)) Q)
        -∗ wp frame (wpE (defs₀ (F := F)) 𝒱₀ (c : Thread nD τ) none) Set.univ (.op (.load xM (xR j).toLoadRect hl) k) Q) := by
  unfold xPts
  iintro H Hk
  iapply (wp_load 𝒱₀ (c : Thread nD τ) none Set.univ (m := xM) (Finset.subset_univ _)) $$ H
  iintro H
  iapply Hk; iexact H

/-- A load of the result buffer whose value goes unused. -/
theorem wp_load_out (c : Dev nD) (f : (cc0_stg1_0 : Ref sig .tc).ty.Contents (Elt F)) {r : Rect S4096x1024} {hl} {α : Type} {Q : α → sProp 𝕄}
    {p : Prog (TpuEff nD τ sig (Elt F) Λ₀ .tc) α} :
    outPts c f ⊢ iprop((outPts c f -∗ wp frame (wpE (defs₀ (F := F)) 𝒱₀ (c : Thread nD τ) none) Set.univ p Q)
        -∗ wp frame (wpE (defs₀ (F := F)) 𝒱₀ (c : Thread nD τ) none) Set.univ (.op (.load oM r.toLoadRect hl) (fun _ => p)) Q) := by
  unfold outPts
  iintro H Hk
  iapply (wp_load 𝒱₀ (c : Thread nD τ) none Set.univ (m := oM) (Finset.subset_univ _)) $$ H
  iintro H
  iapply Hk; iexact H

/-- Storing the `j`-th block of 256 rows over the first `j`. -/
theorem wp_store_out (c : Dev nD) (f : (cc0_stg1_0 : Ref sig .tc).ty.Contents (Elt F)) (j : ℕ) (hj : j < 16)
    {w : S256x1024.Idx → Elt F .f32} (hw : w = blk m ρ c ⟨j, hj⟩) {h1 h2} {α : Type} {Q : α → sProp 𝕄} {k : PUnit → Prog (TpuEff nD τ sig (Elt F) Λ₀ .tc) α} :
    outPts c (upTo m ρ c f j (Nat.le_of_lt hj))
      ⊢ iprop((outPts c (upTo m ρ c f (j + 1) hj) -∗ wp frame (wpE (defs₀ (F := F)) 𝒱₀ (c : Thread nD τ) none) Set.univ (k ⟨⟩) Q)
        -∗ wp frame (wpE (defs₀ (F := F)) 𝒱₀ (c : Thread nD τ) none) Set.univ (.op (.store oM (xR ⟨j, hj⟩) w Finset.univ h1 h2) k) Q) := by
  subst hw
  unfold outPts
  iintro H Hk
  iapply (wp_store 𝒱₀ (c : Thread nD τ) none Set.univ (m := oM) (r := xR ⟨j, hj⟩) (Mk := Finset.univ) (Finset.subset_univ _)) $$ H
  iintro H
  iapply Hk; iexact H

/-! ## The parts that only load and store -/

/-- Blocks 3 to 11 are loaded and summed by columns. -/
theorem wp_part2 (c : Dev nD) {Q : _ → sProp 𝕄} :
    xPts m ρ c ⊢ iprop((xPts m ρ c -∗ Q ⟨bs m ρ c 3, bs m ρ c 4, bs m ρ c 5, bs m ρ c 6, bs m ρ c 7, bs m ρ c 8, bs m ρ c 9, bs m ρ c 10,
          k0_pay12 (xb m ρ c 11)⟩)
        -∗ wp frame (wpE (defs₀ (F := F)) 𝒱₀ (c : Thread nD τ) none) Set.univ (k0_part2 xM (Memref.isWhole_whole cc0_stg0_0) oM (Memref.isWhole_whole cc0_stg1_0) totM
            (Memref.isWhole_whole cc0_scratch0) commM (Memref.isWhole_whole cc0_scratch1) cc0_scratch2 cc0_scratch3) Q) := by
  simp only [k0_part2_eq_skeleton]; unfold k0_part2_skel
  simp only [Prog.lift, Prog.bind_op, Prog.bind_ret, Prog.pure_eq_ret]
  iintro H Hk
  iapply (wp_load_x m ρ c 3) $$ H; iintro H
  iapply (wp_load_x m ρ c 4) $$ H; iintro H
  iapply (wp_load_x m ρ c 5) $$ H; iintro H
  iapply (wp_load_x m ρ c 6) $$ H; iintro H
  iapply (wp_load_x m ρ c 7) $$ H; iintro H
  iapply (wp_load_x m ρ c 8) $$ H; iintro H
  iapply (wp_load_x m ρ c 9) $$ H; iintro H
  iapply (wp_load_x m ρ c 10) $$ H; iintro H
  iapply (wp_load_x m ρ c 11) $$ H; iintro H
  rw [wp_ret]; imodintro
  simp only [bs, k0_pay1, k0_pay4, k0_pay5, k0_pay6, k0_pay7, k0_pay8, k0_pay9, k0_pay10, k0_pay11]
  iapply Hk; iexact H

/-- Blocks 3 to 6 of the result are stored. -/
theorem wp_part6 (c : Dev nD) (f : (cc0_stg1_0 : Ref sig .tc).ty.Contents (Elt F)) {Q : _ → sProp 𝕄} :
    iprop(xPts m ρ c ∗ outPts c (upTo m ρ c f 3 (by decide)))
      ⊢ iprop(((xPts m ρ c ∗ outPts c (upTo m ρ c f 7 (by decide))) -∗ Q ⟨offs m ρ c 7, k0_pay36 (k0_pay20 (F := F)) (xb m ρ c 7),
            broadcastTo S256x1024 (offs m ρ c 7) broadcasts_S1x1024_S256x1024⟩)
        -∗ wp frame (wpE (defs₀ (F := F)) 𝒱₀ (c : Thread nD τ) none) Set.univ (k0_part6 xM (Memref.isWhole_whole cc0_stg0_0) oM (Memref.isWhole_whole cc0_stg1_0) totM
            (Memref.isWhole_whole cc0_scratch0) commM (Memref.isWhole_whole cc0_scratch1) cc0_scratch2 cc0_scratch3
              (bs m ρ c 3) (bs m ρ c 4) (bs m ρ c 5) (bs m ρ c 6) (k0_pay20 (F := F)) (offs m ρ c 3) (k0_pay27 (xb m ρ c 3))) Q) := by
  simp only [k0_part6_eq_skeleton]; unfold k0_part6_skel
  simp only [Prog.lift, Prog.bind_op, Prog.bind_ret, Prog.pure_eq_ret]
  iintro ⟨H, Ho⟩ Hk
  iapply (wp_load_out c _) $$ Ho; iintro Ho
  iapply (wp_store_out m ρ c f 3 (by decide) rfl) $$ Ho; iintro Ho
  iapply (wp_load_x m ρ c 4) $$ H; iintro H
  iapply (wp_load_out c _) $$ Ho; iintro Ho
  iapply (wp_store_out m ρ c f 4 (by decide) rfl) $$ Ho; iintro Ho
  iapply (wp_load_x m ρ c 5) $$ H; iintro H
  iapply (wp_load_out c _) $$ Ho; iintro Ho
  iapply (wp_store_out m ρ c f 5 (by decide) rfl) $$ Ho; iintro Ho
  iapply (wp_load_x m ρ c 6) $$ H; iintro H
  iapply (wp_load_out c _) $$ Ho; iintro Ho
  iapply (wp_store_out m ρ c f 6 (by decide) rfl) $$ Ho; iintro Ho
  iapply (wp_load_x m ρ c 7) $$ H; iintro H
  rw [wp_ret, show k0_pay37 (bs m ρ c 3) (bs m ρ c 4) (bs m ρ c 5) (bs m ρ c 6) (offs m ρ c 3)
      = broadcastTo S256x1024 (offs m ρ c 7) broadcasts_S1x1024_S256x1024 from rfl,
    show k0_pay35 (bs m ρ c 3) (bs m ρ c 4) (bs m ρ c 5) (bs m ρ c 6) (offs m ρ c 3) = offs m ρ c 7 from rfl]
  imodintro
  iapply Hk
  isplitl [H]; · iexact H
  iexact Ho

/-- Blocks 7 to 10 of the result are stored, and block 11 is computed. -/
theorem wp_part7 (c : Dev nD) (f : (cc0_stg1_0 : Ref sig .tc).ty.Contents (Elt F)) {Q : _ → sProp 𝕄} :
    iprop(xPts m ρ c ∗ outPts c (upTo m ρ c f 7 (by decide)))
      ⊢ iprop(((xPts m ρ c ∗ outPts c (upTo m ρ c f 11 (by decide))) -∗ Q ⟨offs m ρ c 11, blk m ρ c 11⟩)
        -∗ wp frame (wpE (defs₀ (F := F)) 𝒱₀ (c : Thread nD τ) none) Set.univ (k0_part7 xM (Memref.isWhole_whole cc0_stg0_0) oM (Memref.isWhole_whole cc0_stg1_0) totM
            (Memref.isWhole_whole cc0_scratch0) commM (Memref.isWhole_whole cc0_scratch1) cc0_scratch2 cc0_scratch3
              (bs m ρ c 7) (bs m ρ c 8) (bs m ρ c 9) (bs m ρ c 10) (k0_pay20 (F := F)) (offs m ρ c 7) (k0_pay36 (k0_pay20 (F := F)) (xb m ρ c 7))
              (broadcastTo S256x1024 (offs m ρ c 7) broadcasts_S1x1024_S256x1024)) Q) := by
  simp only [k0_part7_eq_skeleton]; unfold k0_part7_skel
  simp only [Prog.lift, Prog.bind_op, Prog.bind_ret, Prog.pure_eq_ret]
  iintro ⟨H, Ho⟩ Hk
  iapply (wp_load_out c _) $$ Ho; iintro Ho
  iapply (wp_store_out m ρ c f 7 (by decide) rfl) $$ Ho; iintro Ho
  iapply (wp_load_x m ρ c 8) $$ H; iintro H
  iapply (wp_load_out c _) $$ Ho; iintro Ho
  iapply (wp_store_out m ρ c f 8 (by decide) rfl) $$ Ho; iintro Ho
  iapply (wp_load_x m ρ c 9) $$ H; iintro H
  iapply (wp_load_out c _) $$ Ho; iintro Ho
  iapply (wp_store_out m ρ c f 9 (by decide) rfl) $$ Ho; iintro Ho
  iapply (wp_load_x m ρ c 10) $$ H; iintro H
  iapply (wp_load_out c _) $$ Ho; iintro Ho
  iapply (wp_store_out m ρ c f 10 (by decide) rfl) $$ Ho; iintro Ho
  iapply (wp_load_x m ρ c 11) $$ H; iintro H
  iapply (wp_load_out c _) $$ Ho; iintro Ho
  rw [wp_ret, show k0_pay46 (bs m ρ c 7) (bs m ρ c 8) (bs m ρ c 9) (bs m ρ c 10) (k0_pay20 (F := F)) (offs m ρ c 7) (xb m ρ c 11) = blk m ρ c 11 from rfl,
    show k0_pay45 (bs m ρ c 7) (bs m ρ c 8) (bs m ρ c 9) (bs m ρ c 10) (offs m ρ c 7) = offs m ρ c 11 from rfl]
  imodintro
  iapply Hk
  isplitl [H]; · iexact H
  iexact Ho

/-- Blocks 11 to 15 of the result are stored. -/
theorem wp_part8 (c : Dev nD) (f : (cc0_stg1_0 : Ref sig .tc).ty.Contents (Elt F)) (v : BitVec 32) {Q : _ → sProp 𝕄} :
    iprop(xPts m ρ c ∗ outPts c (upTo m ρ c f 11 (by decide)))
      ⊢ iprop(((xPts m ρ c ∗ outPts c (upTo m ρ c f 16 (by decide))) -∗ Q ⟨Scalar.addi v 1#32, 4#32⟩)
        -∗ wp frame (wpE (defs₀ (F := F)) 𝒱₀ (c : Thread nD τ) none) Set.univ (k0_part8 xM (Memref.isWhole_whole cc0_stg0_0) oM (Memref.isWhole_whole cc0_stg1_0) totM
            (Memref.isWhole_whole cc0_scratch0) commM (Memref.isWhole_whole cc0_scratch1) cc0_scratch2 cc0_scratch3
              v (bs m ρ c 11) (bs m ρ c 12) (bs m ρ c 13) (bs m ρ c 14) (k0_pay20 (F := F)) (offs m ρ c 11) (blk m ρ c 11)) Q) := by
  simp only [k0_part8_eq_skeleton]; unfold k0_part8_skel
  simp only [Prog.lift, Prog.bind_op, Prog.bind_ret, Prog.pure_eq_ret]
  iintro ⟨H, Ho⟩ Hk
  iapply (wp_store_out m ρ c f 11 (by decide) rfl) $$ Ho; iintro Ho
  iapply (wp_load_x m ρ c 12) $$ H; iintro H
  iapply (wp_load_out c _) $$ Ho; iintro Ho
  iapply (wp_store_out m ρ c f 12 (by decide) rfl) $$ Ho; iintro Ho
  iapply (wp_load_x m ρ c 13) $$ H; iintro H
  iapply (wp_load_out c _) $$ Ho; iintro Ho
  iapply (wp_store_out m ρ c f 13 (by decide) rfl) $$ Ho; iintro Ho
  iapply (wp_load_x m ρ c 14) $$ H; iintro H
  iapply (wp_load_out c _) $$ Ho; iintro Ho
  iapply (wp_store_out m ρ c f 14 (by decide) rfl) $$ Ho; iintro Ho
  iapply (wp_load_x m ρ c 15) $$ H; iintro H
  iapply (wp_load_out c _) $$ Ho; iintro Ho
  iapply (wp_store_out m ρ c f 15 (by decide) rfl) $$ Ho; iintro Ho
  rw [wp_ret]; imodintro
  iapply Hk
  isplitl [H]; · iexact H
  iexact Ho

/-- Slot 3 is read, and blocks 0 to 2 of the result are stored. -/
theorem wp_part5 (c : Dev nD) (f : (cc0_stg1_0 : Ref sig .tc).ty.Contents (Elt F)) (f₃ : Buf (Elt F) ((slotM 3).view.loc (c : Thread nD τ)))
    (v : FVec F S1x1024 .f32) (b : BitVec 1) (hv : k0_pay19 v b ((commM.access (slotR 3)).read (Elt F) f₃) = offV m ρ c) {Q : _ → sProp 𝕄} :
    iprop(xPts m ρ c ∗ outPts c (upTo m ρ c f 0 (by decide)) ∗ slotPts c 3 f₃)
      ⊢ iprop(((xPts m ρ c ∗ outPts c (upTo m ρ c f 3 (by decide)) ∗ slotPts c 3 f₃)
            -∗ Q ⟨k0_pay20 (F := F), offs m ρ c 3, k0_pay27 (xb m ρ c 3)⟩)
        -∗ wp frame (wpE (defs₀ (F := F)) 𝒱₀ (c : Thread nD τ) none) Set.univ (k0_part5 xM (Memref.isWhole_whole cc0_stg0_0) oM (Memref.isWhole_whole cc0_stg1_0) totM
            (Memref.isWhole_whole cc0_scratch0) commM (Memref.isWhole_whole cc0_scratch1) cc0_scratch2 cc0_scratch3
              (bs m ρ c 0) (bs m ρ c 1) (bs m ρ c 2) v b) Q) := by
  simp only [k0_part5_eq_skeleton]; unfold k0_part5_skel
  simp only [Prog.lift, Prog.bind_op, Prog.bind_ret, Prog.pure_eq_ret]
  have e0 : k0_pay21 v b ((commM.access (slotR 3)).read (Elt F) f₃) (xb m ρ c 0) = blk m ρ c 0 := by
    unfold k0_pay21; rw [hv]; rfl
  have e1 : k0_pay23 (bs m ρ c 0) v b ((commM.access (slotR 3)).read (Elt F) f₃) (xb m ρ c 1) = blk m ρ c 1 := by
    unfold k0_pay23 k0_pay22; rw [hv]; rfl
  have e2 : k0_pay25 (bs m ρ c 0) (bs m ρ c 1) v b ((commM.access (slotR 3)).read (Elt F) f₃) (xb m ρ c 2) = blk m ρ c 2 := by
    unfold k0_pay25 k0_pay24 k0_pay22; rw [hv]; rfl
  have e3 : k0_pay26 (bs m ρ c 0) (bs m ρ c 1) (bs m ρ c 2) v b ((commM.access (slotR 3)).read (Elt F) f₃) = offs m ρ c 3 := by
    unfold k0_pay26 k0_pay24 k0_pay22; rw [hv]; rfl
  iintro ⟨H, Ho, Hs⟩ Hk
  iapply (wp_load_slot c 3 f₃) $$ Hs; iintro Hs
  iapply (wp_load_x m ρ c 0) $$ H; iintro H
  iapply (wp_load_out c _) $$ Ho; iintro Ho
  iapply (wp_store_out m ρ c f 0 (by decide) e0) $$ Ho; iintro Ho
  iapply (wp_load_x m ρ c 1) $$ H; iintro H
  iapply (wp_load_out c _) $$ Ho; iintro Ho
  iapply (wp_store_out m ρ c f 1 (by decide) e1) $$ Ho; iintro Ho
  iapply (wp_load_x m ρ c 2) $$ H; iintro H
  iapply (wp_load_out c _) $$ Ho; iintro Ho
  iapply (wp_store_out m ρ c f 2 (by decide) e2) $$ Ho; iintro Ho
  iapply (wp_load_x m ρ c 3) $$ H; iintro H
  rw [wp_ret, e3]; imodintro
  iapply Hk
  isplitl [H]; · iexact H
  isplitl [Ho]; · iexact Ho
  iexact Hs

end Cert.ScanProof

end
-- ==== Proof.Talk.lean ====
/-
The device's entry, its transfers and what it takes from the others: the parts of the kernel that talk to the other
devices.
-/
module

public import proofs.«01_k».proof.Proof.Parts
public import Idealize.ShloMosaic.Lib.Ring.Trips

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ)

omit [FloatOps F] in
/-- A family over the four devices is its four members. -/
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rfl

/-- The entry signal to device `p`. -/
theorem wp_enter (c n p : Dev nD) (hn : n = p) (O : CellTallies nD τ sig Unit) (W : Waits sig Unit) {α : Type} {Q : α → sProp 𝕄}
    {k : PUnit → Prog (TpuEff nD τ sig (Elt F) Λ₀ .tc) α} :
    iprop(records m ρ K ∗ barPay p c ∗ owes (c : Thread nD τ) (O + tallyAt (barCell p) () 1) W ∗ dutyTok ER (barCell p) 0 c)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS (1#32 : BitVec 32).toInt) k) Q) := by
  subst hn
  iintro ⟨#HR, Hp, HO, Ht⟩ Hk
  iapply (Rounds.wp_signal 𝒱₀ ER (Rd m ρ) (c : Thread nD τ) none (dst := (n : Thread nD τ)) (κ := K (n, none)) (r := 0) (d := c)
      (by rw [duties_eq m ρ n none]; exact Finset.mem_univ _) ((amount_eq m ρ n none c).trans (by decide)) () O rfl) $$ [HO Ht Hp]
  · isplitr; · iapply (inv_at m ρ K (n, none)); iexact HR
    isplitl [HO]; · iexact HO
    isplitl [Ht]; · iexact Ht
    isplitl [Hp]; · rw [payload_eq m ρ n none c]; iexact Hp
    iapply (reached_at m ρ K (n, none)); iexact HR
  iexact Hk

/-- The entry: a signal to every device, the wait for every device's, and the first three blocks loaded. -/
theorem wp_part1 (c : Dev nD) (W : Waits sig Unit) {Q : _ → sProp 𝕄} :
    iprop(records m ρ K ∗ levAts L lv ∗ xPts m ρ c ∗ (bigSep Finset.univ fun p : Fin 4 => barPay (F := F) p c) ∗ owes (c : Thread nD τ) (O₀ c) W
        ∗ (bigSep Finset.univ fun p : Dev nD => dutyTok ER (barCell p) 0 c) ∗ cred (tallyAt (barCell c) () 4) ∗ atPos ER (barCell c) 0 ∅ 0)
      ⊢ iprop(((xPts m ρ c ∗ owing c (O₁ c) ∗ donePos c none ∗ bigSep Finset.univ fun p : Fin 4 => barPay (F := F) c p)
            -∗ Q ⟨c, place c, bs m ρ c 0, bs m ρ c 1, bs m ρ c 2⟩)
        -∗ wp frame (wpE (defs₀ (F := F)) 𝒱₀ (c : Thread nD τ) none) Set.univ (k0_part1 xM (Memref.isWhole_whole cc0_stg0_0) oM (Memref.isWhole_whole cc0_stg1_0) totM
            (Memref.isWhole_whole cc0_scratch0) commM (Memref.isWhole_whole cc0_scratch1) cc0_scratch2 cc0_scratch3) Q) := by
  simp only [k0_part1_eq_skeleton]; unfold k0_part1_skel
  simp only [semSignalWord, semWaitWord, Prog.lift, Prog.bind_op, Prog.bind_ret, Prog.pure_eq_ret, wp_deviceId]
  rw [bigSep_four fun p : Fin 4 => barPay (F := F) p c, bigSep_four fun p : Fin 4 => dutyTok ER (barCell p) 0 c]
  unfold O₀
  iintro ⟨#HR, #Hlev, H, ⟨Hp0, Hp1, Hp2, Hp3⟩, HO, ⟨Ht0, Ht1, Ht2, Ht3⟩, Hc, Hat⟩ Hk
  iapply (wp_enter m ρ K c _ 0 rfl _ W) $$ [Hp0 HO Ht0]
  · isplitr; · iexact HR
    isplitl [Hp0]; · iexact Hp0
    isplitl [HO]; · iexact HO
    iexact Ht0
  iintro HO
  iapply (wp_enter m ρ K c _ 1 rfl _ W) $$ [Hp1 HO Ht1]
  · isplitr; · iexact HR
    isplitl [Hp1]; · iexact Hp1
    isplitl [HO]; · iexact HO
    iexact Ht1
  iintro HO
  iapply (wp_enter m ρ K c _ 2 rfl _ W) $$ [Hp2 HO Ht2]
  · isplitr; · iexact HR
    isplitl [Hp2]; · iexact Hp2
    isplitl [HO]; · iexact HO
    iexact Ht2
  iintro HO
  iapply (wp_enter m ρ K c _ 3 rfl _ W) $$ [Hp3 HO Ht3]
  · isplitr; · iexact HR
    isplitl [Hp3]; · iexact Hp3
    isplitl [HO]; · iexact HO
    iexact Ht3
  iintro HO
  iapply (Rounds.wp_wait_rest_token 𝒱₀ ER (Rd m ρ) (c : Thread nD τ) none (κ := K (c, none))
      (wpE_semWait_eq 𝒱₀ (c : Thread nD τ) none Set.univ) (Set.mem_univ _) () (O := O₁ c) (W := W) (R := 0) (m := 0) (T := ∅)
      (by rw [expect_bar]; decide)) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply (wp_load_x m ρ c 0) $$ H; iintro H
  iapply (wp_load_x m ρ c 1) $$ H; iintro H
  iapply (wp_load_x m ρ c 2) $$ H; iintro H
  rw [wp_ret]; imodintro
  simp only [bs, k0_pay1, k0_pay2, k0_pay3]
  iapply Hk
  unfold owing donePos
  isplitl [H]; · iexact H
  isplitl [HO]; · iexists _; iexact HO
  isplitl [Hat]; · iexact Hat
  iexact Hp

/-! ## Where the transfers go -/

theorem next_1 (c : Dev nD) (h : k0_cond1 c = 1#1) : (⟨k0_dev5 c, k0_dev5_lt c h⟩ : Dev nD) = c + 1 := by
  have hc := (after_1 c).mp h
  refine Fin.ext ?_
  show k0_dev5 c = (c + 1 : Fin 4).val
  rw [k0_dev5_eq]
  revert hc; revert c; decide
theorem next_2 (c : Dev nD) (h : k0_cond2 c = 1#1) : (⟨k0_dev6 c, k0_dev6_lt c h⟩ : Dev nD) = c + 2 := by
  have hc := (after_2 c).mp h
  refine Fin.ext ?_
  show k0_dev6 c = (c + 2 : Fin 4).val
  rw [k0_dev6_eq]
  revert hc; revert c; decide
theorem next_3 (c : Dev nD) (h : k0_cond3 c = 1#1) : (⟨k0_dev7 c, k0_dev7_lt c h⟩ : Dev nD) = c + 3 := by
  have hc := (after_3 c).mp h
  refine Fin.ext ?_
  show k0_dev7 c = (c + 3 : Fin 4).val
  rw [k0_dev7_eq]
  revert hc; revert c; decide

/-! ## The row of sums -/

/-- The row of sums, held whole, is its three shares. -/
theorem tot_thirds (c : Dev nD) (f : Buf (Elt F) (totM.view.loc (c : Thread nD τ))) :
    (totM.view.loc (c : Thread nD τ) ↦{fullShare} f : sProp 𝕄) ⊣⊢ iprop(totPts c (shr 1) f ∗ totPts c (shr 2) f ∗ totPts c (shr 3) f) := by
  unfold totPts
  rw [show (totM.view.set : Finset totM.view.ty.Idx) = Finset.univ from View.set_whole _]
  exact Ring.pointsTo_thirds fullShare f

omit [FloatOps F] in
theorem zeros2 : (![0, 0] : Fin 2 → Nat) = fun _ => 0 := funext fun a => by fin_cases a <;> rfl

omit [FloatOps F] in
/-- The row of sums stored over whatever was there. -/
theorem write_tot (f w : (cc0_scratch0 : Ref sig .tc).ty.Contents (Elt F)) :
    ((totM : Memref sig .tc .vmem S1x1024 .f32).access (Rect.unit (s := S1x1024) ![0, 0] S1x1024.size inb_S1x1024_S1x1024_0_0) : View sig .tc _ _ _).write
      (Elt F) f w Finset.univ = w :=
  Memref.write_access_unit_zero_univ (Elt F) cc0_scratch0 zeros2 _ f w

/-- Storing the row of sums. -/
theorem wp_store_tot (c : Dev nD) (f : Buf (Elt F) (totM.view.loc (c : Thread nD τ))) {w : S1x1024.Idx → Elt F .f32} (hw : w = totV m ρ c)
    {h1 h2} {α : Type} {Q : α → sProp 𝕄} {k : PUnit → Prog (TpuEff nD τ sig (Elt F) Λ₀ .tc) α} :
    (totM.view.loc (c : Thread nD τ) ↦{fullShare} f : sProp 𝕄)
      ⊢ iprop(((totPts c (shr 1) (totC m ρ c) ∗ totPts c (shr 2) (totC m ρ c) ∗ totPts c (shr 3) (totC m ρ c))
          -∗ wp frame (wpE (defs₀ (F := F)) 𝒱₀ (c : Thread nD τ) none) Set.univ (k ⟨⟩) Q)
        -∗ wp frame (wpE (defs₀ (F := F)) 𝒱₀ (c : Thread nD τ) none) Set.univ (.op (.store totM
            (Rect.unit (s := S1x1024) ![0, 0] S1x1024.size inb_S1x1024_S1x1024_0_0) w Finset.univ h1 h2) k) Q) := by
  subst hw
  have h : (totM.view.loc (c : Thread nD τ) ↦{fullShare} (totM.access (Rect.unit (s := S1x1024) ![0, 0] S1x1024.size inb_S1x1024_S1x1024_0_0)).write
      (Elt F) f (totV m ρ c) Finset.univ : sProp 𝕄) ⊢ iprop(totPts c (shr 1) (totC m ρ c) ∗ totPts c (shr 2) (totC m ρ c) ∗ totPts c (shr 3) (totC m ρ c)) := by
    rw [write_tot]; exact (tot_thirds c (totC m ρ c)).1
  iintro H Hk
  iapply (wp_store 𝒱₀ (c : Thread nD τ) none Set.univ (m := totM)
    (r := Rect.unit (s := S1x1024) ![0, 0] S1x1024.size inb_S1x1024_S1x1024_0_0) (Mk := Finset.univ) (Finset.subset_univ _)) $$ H
  iintro H
  iapply Hk
  iapply h; iexact H

/-- The part that forms the sums of the block, as a program over the guarded transfer. -/
theorem part3_eq (c : Dev nD) (v : BitVec 32) (b0 b1 b2 b3 b4 b5 b6 b7 b8 b9 b10 : FVec F S1x1024 .f32) (b11 : FVec F S256x1024 .f32) :
    k0_part3_skel (F := F) xM (Memref.isWhole_whole cc0_stg0_0) oM (Memref.isWhole_whole cc0_stg1_0) totM
      (Memref.isWhole_whole cc0_scratch0) commM (Memref.isWhole_whole cc0_scratch1) cc0_scratch2 cc0_scratch3 c v b0 b1 b2 b3 b4 b5 b6 b7 b8 b9 b10 b11
      = .op (.load xM (xR 12).toLoadRect (View.loadsAt_vmem h_S256x1024)) fun x12 => .op (.load xM (xR 13).toLoadRect (View.loadsAt_vmem h_S256x1024)) fun x13 =>
        .op (.load xM (xR 14).toLoadRect (View.loadsAt_vmem h_S256x1024)) fun x14 => .op (.load xM (xR 15).toLoadRect (View.loadsAt_vmem h_S256x1024)) fun x15 =>
        .op (.load totM (Rect.unit (s := S1x1024) ![0, 0] S1x1024.size inb_S1x1024_S1x1024_0_0).toLoadRect (View.loadsAt_vmem h_S1x1024)) fun _ =>
        .op (.store totM (Rect.unit (s := S1x1024) ![0, 0] S1x1024.size inb_S1x1024_S1x1024_0_0)
          (k0_pay17 b0 b1 b2 b3 b4 b5 b6 b7 b8 b9 b10 b11 x12 x13 x14 x15) Finset.univ (View.stores_vmem_bits_univ h_S1x1024 rfl) (.inl rfl)) fun _ =>
        sendIf 1 (k0_cond1 c = 1#1) (fun h => ⟨k0_dev5 c, k0_dev5_lt c h⟩) (.ret ⟨k0_pay13 b11, k0_pay14 x12, k0_pay15 x13, k0_pay16 x14, 2#32⟩) := rfl

/-- The part that sends to the devices further on and waits for those before, as a program over the guarded transfers and waits. -/
theorem part4_eq (c : Dev nD) (w v : BitVec 32) :
    k0_part4_skel (F := F) xM (Memref.isWhole_whole cc0_stg0_0) oM (Memref.isWhole_whole cc0_stg1_0) totM
      (Memref.isWhole_whole cc0_scratch0) commM (Memref.isWhole_whole cc0_scratch1) cc0_scratch2 cc0_scratch3 c w v
      = sendIf 2 (k0_cond2 c = 1#1) (fun h => ⟨k0_dev6 c, k0_dev6_lt c h⟩) (sendIf 3 (k0_cond3 c = 1#1) (fun h => ⟨k0_dev7 c, k0_dev7_lt c h⟩)
        (recvIf 1 (Scalar.cmpi .ne (Scalar.extui (Scalar.cmpi .sge w 1#32) : BitVec 32) 0#32 = 1#1)
        (recvIf 2 (Scalar.cmpi .ne (Scalar.extui (Scalar.cmpi .sge w 2#32) : BitVec 32) 0#32 = 1#1)
        (recvIf 3 (Scalar.cmpi .ne (Scalar.extui (Scalar.cmpi .sge w 3#32) : BitVec 32) 0#32 = 1#1)
        (.op (.load commM (slotR 1).toLoadRect (View.loadsAt_vmem h_S1x1x1024)) fun y1 => .op (.load commM (slotR 2).toLoadRect (View.loadsAt_vmem h_S1x1x1024)) fun y2 =>
          .ret ⟨k0_pay18 w y1 y2, Scalar.cmpi .sge w 3#32⟩))))) := rfl

/-- The last four blocks are loaded, the row of sums is stored and sent to the next device. -/
theorem wp_part3 (c : Dev nD) (O : CellTallies nD τ sig Unit) (v : BitVec 32) {Q : _ → sProp 𝕄} :
    iprop(records m ρ K ∗ xPts m ρ c
        ∗ (∃ f : Buf (Elt F) ((c : Thread nD τ).loc cc0_scratch0), ((c : Thread nD τ).loc cc0_scratch0) ↦{fullShare} f)
        ∗ barPay c (c + 1) ∗ owing c (O + due c 1) ∗ dutyTok ER (sendCell c 1) 0 0 ∗ dutyTok ER (recvCell (c + 1) 1) 0 0)
      ⊢ iprop(((xPts m ρ c ∗ owing c O ∗ sentSt m ρ c 1 ∗ totPts c (shr 2) (totC m ρ c) ∗ totPts c (shr 3) (totC m ρ c))
            -∗ Q ⟨bs m ρ c 11, bs m ρ c 12, bs m ρ c 13, bs m ρ c 14, 2#32⟩)
        -∗ wp frame (wpE (defs₀ (F := F)) 𝒱₀ (c : Thread nD τ) none) Set.univ (k0_part3 xM (Memref.isWhole_whole cc0_stg0_0) oM (Memref.isWhole_whole cc0_stg1_0) totM
            (Memref.isWhole_whole cc0_scratch0) commM (Memref.isWhole_whole cc0_scratch1) cc0_scratch2 cc0_scratch3
              c v (bs m ρ c 0) (bs m ρ c 1) (bs m ρ c 2) (bs m ρ c 3) (bs m ρ c 4) (bs m ρ c 5) (bs m ρ c 6) (bs m ρ c 7)
              (bs m ρ c 8) (bs m ρ c 9) (bs m ρ c 10) (k0_pay12 (xb m ρ c 11))) Q) := by
  simp only [k0_part3_eq_skeleton, part3_eq]
  iintro ⟨#HR, H, ⟨%f, Ht⟩, Hp, HO, HtS, HtR⟩ Hk
  iapply (wp_load_x m ρ c 12) $$ H; iintro H
  iapply (wp_load_x m ρ c 13) $$ H; iintro H
  iapply (wp_load_x m ρ c 14) $$ H; iintro H
  iapply (wp_load_x m ρ c 15) $$ H; iintro H
  iapply (wp_load 𝒱₀ (c : Thread nD τ) none Set.univ (m := totM) (Finset.subset_univ _)) $$ Ht; iintro Ht
  iapply (wp_store_tot m ρ c _ rfl) $$ Ht; iintro Ht'
  icases Ht' with ⟨Ht1, Ht2, Ht3⟩
  iapply (wp_send_if m ρ K c 1 (after_1 c) (fun h => ⟨k0_dev5 c, k0_dev5_lt c h⟩) (next_1 c) O) $$ [Ht1 Hp HO HtS HtR]
  · isplitr; · iexact HR
    isplitl [Ht1]; · iexact Ht1
    isplitl [Hp]; · iexact Hp
    isplitl [HO]; · iexact HO
    isplitl [HtS]; · iexact HtS
    iexact HtR
  iintro ⟨Hs, HO⟩
  rw [wp_ret]; imodintro
  simp only [bs, k0_pay1, k0_pay12, k0_pay13, k0_pay14, k0_pay15, k0_pay16]
  iapply Hk
  isplitl [H]; · iexact H
  isplitl [HO]; · iexact HO
  isplitl [Hs]; · iexact Hs
  isplitl [Ht2]; · iexact Ht2
  iexact Ht3

/-- The row of sums is sent to the two devices further on; the rows of the devices before are waited for; slots 1 and 2 are read. -/
theorem wp_part4 (c : Dev nD) (v : BitVec 32) {Q : _ → sProp 𝕄} :
    iprop(records m ρ K ∗ barPay c (c + 2) ∗ barPay c (c + 3) ∗ owing c (0 + due c 3 + due c 2)
        ∗ totPts c (shr 2) (totC m ρ c) ∗ totPts c (shr 3) (totC m ρ c)
        ∗ (dutyTok ER (sendCell c 2) 0 0 ∗ dutyTok ER (recvCell (c + 2) 2) 0 0)
        ∗ (dutyTok ER (sendCell c 3) 0 0 ∗ dutyTok ER (recvCell (c + 3) 3) 0 0)
        ∗ (recvCred c 1 ∗ recvCred c 2 ∗ recvCred c 3)
        ∗ (atPos ER (recvCell c 1) 0 ∅ 0 ∗ atPos ER (recvCell c 2) 0 ∅ 0 ∗ atPos ER (recvCell c 3) 0 ∅ 0)
        ∗ (kept c 1 ∗ kept c 2 ∗ kept c 3))
      ⊢ iprop((∀ f₁, ∀ f₂, ∀ f₃, ∀ v',
            iprop(⌜k0_pay19 v' (Scalar.cmpi .sge (place c) 3#32) ((commM.access (slotR 3)).read (Elt F) f₃) = offV m ρ c⌝
              ∗ owing c 0 ∗ sentSt m ρ c 2 ∗ sentSt m ρ c 3
              ∗ (donePos c (some (true, 1)) ∗ donePos c (some (true, 2)) ∗ donePos c (some (true, 3)))
              ∗ slotPts c 1 f₁ ∗ slotPts c 2 f₂ ∗ slotPts c 3 f₃)
            -∗ Q ⟨v', Scalar.cmpi .sge (place c) 3#32⟩)
        -∗ wp frame (wpE (defs₀ (F := F)) 𝒱₀ (c : Thread nD τ) none) Set.univ (k0_part4 xM (Memref.isWhole_whole cc0_stg0_0) oM (Memref.isWhole_whole cc0_stg1_0) totM
            (Memref.isWhole_whole cc0_scratch0) commM (Memref.isWhole_whole cc0_scratch1) cc0_scratch2 cc0_scratch3 c (place c) v) Q) := by
  simp only [k0_part4_eq_skeleton, part4_eq]
  iintro ⟨#HR, Hp2, Hp3, HO, Ht2, Ht3, ⟨HtS2, HtR2⟩, ⟨HtS3, HtR3⟩, ⟨Hc1, Hc2, Hc3⟩, ⟨Ha1, Ha2, Ha3⟩, ⟨Hk1, Hk2, Hk3⟩⟩ Hk
  iapply (wp_send_if m ρ K c 2 (after_2 c) (fun h => ⟨k0_dev6 c, k0_dev6_lt c h⟩) (next_2 c) (0 + due c 3)) $$ [Ht2 Hp2 HO HtS2 HtR2]
  · isplitr; · iexact HR
    isplitl [Ht2]; · iexact Ht2
    isplitl [Hp2]; · iexact Hp2
    isplitl [HO]; · iexact HO
    isplitl [HtS2]; · iexact HtS2
    iexact HtR2
  iintro ⟨Hs2, HO⟩
  iapply (wp_send_if m ρ K c 3 (after_3 c) (fun h => ⟨k0_dev7 c, k0_dev7_lt c h⟩) (next_3 c) 0) $$ [Ht3 Hp3 HO HtS3 HtR3]
  · isplitr; · iexact HR
    isplitl [Ht3]; · iexact Ht3
    isplitl [Hp3]; · iexact Hp3
    isplitl [HO]; · iexact HO
    isplitl [HtS3]; · iexact HtS3
    iexact HtR3
  iintro ⟨Hs3, HO⟩
  iapply (wp_recv_if m ρ K c 1 ((widened _).trans (before_1 c))) $$ [Hc1 HO Ha1 Hk1]
  · isplitr; · iexact HR
    isplitl [Hc1]; · iexact Hc1
    isplitl [HO]; · iexact HO
    isplitl [Ha1]; · iexact Ha1
    iexact Hk1
  iintro ⟨HO, Hd1, Hg1⟩
  iapply (wp_recv_if m ρ K c 2 ((widened _).trans (before_2 c))) $$ [Hc2 HO Ha2 Hk2]
  · isplitr; · iexact HR
    isplitl [Hc2]; · iexact Hc2
    isplitl [HO]; · iexact HO
    isplitl [Ha2]; · iexact Ha2
    iexact Hk2
  iintro ⟨HO, Hd2, Hg2⟩
  iapply (wp_recv_if m ρ K c 3 ((widened _).trans (before_3 c))) $$ [Hc3 HO Ha3 Hk3]
  · isplitr; · iexact HR
    isplitl [Hc3]; · iexact Hc3
    isplitl [HO]; · iexact HO
    isplitl [Ha3]; · iexact Ha3
    iexact Hk3
  iintro ⟨HO, Hd3, Hg3⟩
  unfold got
  icases Hg1 with ⟨%f₁, %h₁, Hg1⟩
  icases Hg2 with ⟨%f₂, %h₂, Hg2⟩
  icases Hg3 with ⟨%f₃, %h₃, Hg3⟩
  iapply (wp_load_slot c 1 f₁) $$ Hg1; iintro Hg1
  iapply (wp_load_slot c 2 f₂) $$ Hg2; iintro Hg2
  rw [wp_ret]; imodintro
  iapply Hk
  isplitr; · ipureintro; exact off_eq m ρ c f₁ f₂ f₃ h₁ h₂ h₃
  isplitl [HO]; · iexact HO
  isplitl [Hs2]; · iexact Hs2
  isplitl [Hs3]; · iexact Hs3
  isplitl [Hd1 Hd2 Hd3]
  · isplitl [Hd1]; · iexact Hd1
    isplitl [Hd2]; · iexact Hd2
    iexact Hd3
  isplitl [Hg1]; · iexact Hg1
  isplitl [Hg2]; · iexact Hg2
  iexact Hg3

end Cert.ScanProof

end
-- ==== Proof.Body.lean ====
/-
The kernel on one device, from what the launch deals it to the sums of its rows: the stretches put one after the other.
-/
module

public import proofs.«01_k».proof.Proof.Talk

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ)

/-! ## Rearranging what a device holds -/

omit [FloatOps F] in
/-- Three things in a row, bracketed to the right. -/
theorem bracket (P Q R : sProp 𝕄) : iprop((P ∗ Q) ∗ R) = iprop(P ∗ Q ∗ R) := BI.equiv_iff.mp ⟨BI.sep_assoc, BI.sep_assoc'⟩

omit [FloatOps F] in
/-- A device's cells are its barrier, its send cells and its receive cells. -/
theorem bigSep_cells (Φ : CellIx → sProp 𝕄) : bigSep Finset.univ Φ
    = iprop(Φ none ∗ (Φ (some (false, 0)) ∗ Φ (some (false, 1)) ∗ Φ (some (false, 2)) ∗ Φ (some (false, 3)))
        ∗ (Φ (some (true, 0)) ∗ Φ (some (true, 1)) ∗ Φ (some (true, 2)) ∗ Φ (some (true, 3)))) := by
  rw [bigSep_univ_eq_bigSepL [none, some (false, 0), some (false, 1), some (false, 2), some (false, 3), some (true, 0), some (true, 1),
    some (true, 2), some (true, 3)] (by decide) (by decide), bracket, bracket, bracket]
  rfl

/-- The device `d` places on, for each `d`. -/
def onward (c : Fin 4) : Fin 4 ≃ Fin 4 where
  toFun d := c + d
  invFun p := p - c
  left_inv d := by revert c d; decide
  right_inv p := by revert c p; decide

/-- What the devices' signals hand device `c`, listed by how far on they are. -/
theorem handed (c : Dev nD) : (bigSep Finset.univ fun p : Fin 4 => barPay (F := F) c p)
    = iprop(barPay c (c + 0) ∗ barPay c (c + 1) ∗ barPay c (c + 2) ∗ barPay c (c + 3)) := by
  rw [bigSep_univ_equiv (onward c) (fun p => barPay (F := F) c p), bigSep_four]
  rfl

/-- A cell no transfer uses is done with from the start. -/
theorem rounds_zero (c : Dev nD) (b : Bool) : rounds c (some (b, 0)) = 0 := by revert c b; decide
theorem done_zero (c : Dev nD) (b : Bool) : (atPos ER (kcell (c, some (b, 0))) 0 ∅ 0 : sProp 𝕄) = donePos c (some (b, 0)) := by
  unfold donePos; rw [rounds_zero]

/-- Once a device is done with all its cells it closes them, their counters at zero. -/
theorem close_cells (c : Dev nD) :
    iprop(records m ρ K ∗ bigSep Finset.univ fun k : CellIx => donePos (F := F) c k)
      ⊢ |={Set.univ}=> (bigSep Finset.univ fun k : CellIx => semVal (kcell (c, k)) 0 : sProp 𝕄) := by
  have h : ∀ k ∈ (Finset.univ : Finset CellIx), iprop(records m ρ K ∗ donePos (F := F) c k) ⊢ |={Set.univ}=> (semVal (kcell (c, k)) 0 : sProp 𝕄) := fun k _ => by
    unfold donePos
    iintro ⟨#HR, H⟩
    iapply (Rounds.cell_close ER (Rd m ρ) (Set.mem_univ (K (c, k))) (fun h => h) (R := rounds c k) (duties_after m ρ c k))
    isplitr; · iapply (inv_at m ρ K (c, k)); iexact HR
    iexact H
  exact ((sep_mono_left (BI.bigSep_of_persistent Finset.univ (records m ρ K))).trans (by rw [← bigSep_sep']; exact bigSep_mono h)).trans
    (bigSep_fupd _ _)

/-- The blocks of 256 rows fill the result, whatever it held. -/
theorem upTo_all (c : Dev nD) (f : (cc0_stg1_0 : Ref sig .tc).ty.Contents (Elt F)) : upTo m ρ c f 16 le_rfl = outAt m ρ c := by
  have key : ∀ g : (cc0_stg1_0 : Ref sig .tc).ty.Contents (Elt F), ∀ y : S4096x1024.Idx,
      oM.view.read (Elt F) (upTo m ρ c g 16 le_rfl) y
        = blk m ρ c ⟨(y 0).val / 256, by have := (y 0).isLt; show _ < 16; change (y 0).val < 4096 at this; omega⟩
            (fun a => match a with
              | ⟨0, _⟩ => ⟨(y 0).val % 256, Nat.mod_lt _ (by decide)⟩
              | ⟨1, _⟩ => ⟨(y 1).val, (y 1).isLt⟩) := fun g y => by
    have hy : (y 0).val < 4096 := (y 0).isLt
    refine View.read_tilePieces oM.view g S256x1024.size (fun i : Fin 16 => ![256 * i.val, 0]) x_inb (fun i => blk m ρ c i) 16 le_rfl y _ ?_ _ ?_ 0 ?_
    · show (y 0).val / 256 < 16; omega
    · intro a
      fin_cases a
      · show (y 0).val = 256 * ((y 0).val / 256) + (y 0).val % 256; omega
      · show (y 1).val = 0 + (y 1).val; omega
    · intro i' hi'
      have hn : i'.val ≠ (y 0).val / 256 := fun e => hi' (Fin.ext e)
      show (y 0).val < 256 * i'.val ∨ 256 * i'.val + 256 ≤ (y 0).val
      omega
  have hr : ∀ X : (cc0_stg1_0 : Ref sig .tc).ty.Contents (Elt F), oM.view.read (Elt F) X = X := fun X => rfl
  rw [← hr (upTo m ρ c f 16 le_rfl), ← hr (outAt m ρ c)]
  funext y
  rw [key]
  exact (key (View.junk oM.view) y).symm

/-! ## The program -/

/-- The body is its eight stretches and, at the end, the waits for the transfers to have left. -/
theorem body_eq :
    cc0_body_skel (F := F) xM (Memref.isWhole_whole cc0_stg0_0) oM (Memref.isWhole_whole cc0_stg1_0) totM
        (Memref.isWhole_whole cc0_scratch0) commM (Memref.isWhole_whole cc0_scratch1) cc0_scratch2 cc0_scratch3
      = (k0_part1 xM (Memref.isWhole_whole cc0_stg0_0) oM (Memref.isWhole_whole cc0_stg1_0) totM
          (Memref.isWhole_whole cc0_scratch0) commM (Memref.isWhole_whole cc0_scratch1) cc0_scratch2 cc0_scratch3 >>= fun r1 =>
        k0_part2 xM (Memref.isWhole_whole cc0_stg0_0) oM (Memref.isWhole_whole cc0_stg1_0) totM
          (Memref.isWhole_whole cc0_scratch0) commM (Memref.isWhole_whole cc0_scratch1) cc0_scratch2 cc0_scratch3 >>= fun r2 =>
        k0_part3 xM (Memref.isWhole_whole cc0_stg0_0) oM (Memref.isWhole_whole cc0_stg1_0) totM
          (Memref.isWhole_whole cc0_scratch0) commM (Memref.isWhole_whole cc0_scratch1) cc0_scratch2 cc0_scratch3
          r1.1 r1.2.1 r1.2.2.1 r1.2.2.2.1 r1.2.2.2.2 r2.1 r2.2.1 r2.2.2.1 r2.2.2.2.1 r2.2.2.2.2.1 r2.2.2.2.2.2.1 r2.2.2.2.2.2.2.1
          r2.2.2.2.2.2.2.2.1 r2.2.2.2.2.2.2.2.2 >>= fun r3 =>
        k0_part4 xM (Memref.isWhole_whole cc0_stg0_0) oM (Memref.isWhole_whole cc0_stg1_0) totM
          (Memref.isWhole_whole cc0_scratch0) commM (Memref.isWhole_whole cc0_scratch1) cc0_scratch2 cc0_scratch3
          r1.1 r1.2.1 r3.2.2.2.2 >>= fun r4 =>
        k0_part5 xM (Memref.isWhole_whole cc0_stg0_0) oM (Memref.isWhole_whole cc0_stg1_0) totM
          (Memref.isWhole_whole cc0_scratch0) commM (Memref.isWhole_whole cc0_scratch1) cc0_scratch2 cc0_scratch3
          r1.2.2.1 r1.2.2.2.1 r1.2.2.2.2 r4.1 r4.2 >>= fun r5 =>
        k0_part6 xM (Memref.isWhole_whole cc0_stg0_0) oM (Memref.isWhole_whole cc0_stg1_0) totM
          (Memref.isWhole_whole cc0_scratch0) commM (Memref.isWhole_whole cc0_scratch1) cc0_scratch2 cc0_scratch3
          r2.1 r2.2.1 r2.2.2.1 r2.2.2.2.1 r5.1 r5.2.1 r5.2.2 >>= fun r6 =>
        k0_part7 xM (Memref.isWhole_whole cc0_stg0_0) oM (Memref.isWhole_whole cc0_stg1_0) totM
          (Memref.isWhole_whole cc0_scratch0) commM (Memref.isWhole_whole cc0_scratch1) cc0_scratch2 cc0_scratch3
          r2.2.2.2.2.1 r2.2.2.2.2.2.1 r2.2.2.2.2.2.2.1 r2.2.2.2.2.2.2.2.1 r5.1 r6.1 r6.2.1 r6.2.2 >>= fun r7 =>
        k0_part8 xM (Memref.isWhole_whole cc0_stg0_0) oM (Memref.isWhole_whole cc0_stg1_0) totM
          (Memref.isWhole_whole cc0_scratch0) commM (Memref.isWhole_whole cc0_scratch1) cc0_scratch2 cc0_scratch3
          r1.2.1 r3.1 r3.2.1 r3.2.2.1 r3.2.2.2.1 r5.1 r7.1 r7.2 >>= fun r8 =>
        leftIf 1 (Scalar.cmpi .ne (Scalar.extui (Scalar.cmpi .slt r8.1 r8.2) : BitVec 32) 0#32 = 1#1)
        (leftIf 2 (Scalar.cmpi .ne (Scalar.extui (Scalar.cmpi .slt (Scalar.addi r1.2.1 2#32) 4#32) : BitVec 32) 0#32 = 1#1)
        (leftIf 3 (Scalar.cmpi .ne (Scalar.extui (Scalar.cmpi .slt (Scalar.addi r1.2.1 3#32) 4#32) : BitVec 32) 0#32 = 1#1)
        (.ret ⟨⟩)))) := rfl

/-- Slot `0` is nobody else's. -/
theorem own_slot (c : Dev nD) : ¬ c - 0 < c := by revert c; decide

omit [FloatOps F] in
theorem kept_own (c : Dev nD) : kept (F := F) c 0 = iprop(∃ f, slotPts c 0 f) := if_neg (own_slot c)

/-- The slots of a device, one by one, and what lies outside them are its landing buffer. -/
theorem comm_whole (c : Dev nD) :
    iprop(kept (F := F) c 0 ∗ (∃ f, slotPts (F := F) c 1 f) ∗ (∃ f, slotPts (F := F) c 2 f) ∗ (∃ f, slotPts (F := F) c 3 f) ∗ slotRest (F := F) c)
      ⊢ (iprop(∃ f : Buf (Elt F) ((c : Thread nD τ).loc cc0_scratch1), ((c : Thread nD τ).loc cc0_scratch1) ↦{fullShare} f) : sProp 𝕄) := by
  rw [kept_own]
  refine BI.Entails.trans ?_ (comm_join (F := F) c)
  unfold slots
  rw [bigSep_four, bracket, bracket, bracket]
  exact fun _ h => h

/-! ## The body -/

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop((ghost m ρ K c ∗ creds c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it leaves. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- What the stretches hold before the first of them, the buffers by name. -/
def runPre (c : Dev nD) (f : (cc0_stg1_0 : Ref sig .tc).ty.Contents (Elt F)) (W : Waits sig Unit) : sProp 𝕄 :=
  iprop(records m ρ K ∗ posns c ∗ payToks c ∗ creds c ∗ levAts L lv ∗ scratch c ∗ owes (c : Thread nD τ) (O₀ c) W ∗ xPts m ρ c ∗ outPts c f)
/-- And after the last. -/
def runPost (c : Dev nD) : sProp 𝕄 :=
  iprop(Φ₁ c ∗ owing c 0 ∗ xPts m ρ c ∗ outPts c (outAt m ρ c))

set_option maxHeartbeats 1600000 in
/-- The body on device `c`: from its buffers and cells to its rows of the result, every cell closed. -/
theorem sound_run (c : Dev nD) (f : (cc0_stg1_0 : Ref sig .tc).ty.Contents (Elt F)) (W : Waits sig Unit) (Kt : PUnit → sProp 𝕄) :
    runPre m ρ K c f W ⊢ iprop((runPost m ρ c -∗ Kt ⟨⟩)
      -∗ wp frame (wpE (defs₀ (F := F)) 𝒱₀ (c : Thread nD τ) none) Set.univ
          (cc0_body_skel xM (Memref.isWhole_whole cc0_stg0_0) oM (Memref.isWhole_whole cc0_stg1_0) totM
            (Memref.isWhole_whole cc0_scratch0) commM (Memref.isWhole_whole cc0_scratch1) cc0_scratch2 cc0_scratch3) Kt) := by
  rw [body_eq]
  simp only [wp_bind]
  unfold runPre posns payToks creds scratch
  rw [bigSep_cells, bigSep_four (fun d => dutyTok ER (sendCell c d) 0 0), bigSep_four (fun d => dutyTok ER (recvCell (c + d) d) 0 0),
    bigSep_four (fun d => recvCred c d)]
  iintro ⟨#HR, ⟨HpB, ⟨HpS0, HpS1, HpS2, HpS3⟩, ⟨HpR0, HpR1, HpR2, HpR3⟩⟩, ⟨HtB, ⟨-, HtS1, HtS2, HtS3⟩, ⟨-, HtR1, HtR2, HtR3⟩⟩,
    ⟨HcB, ⟨-, HcR1, HcR2, HcR3⟩⟩, #Hlev, ⟨Htot, Hcomm⟩, HO, Hx, Hout⟩ Hk
  ihave Hs := (comm_split (F := F) c) $$ Hcomm
  icases Hs with ⟨Hs, Hrest⟩
  ihave Hd := (deal (F := F) c) $$ Hs
  rw [bigSep_four (fun d => kept (F := F) c d)]
  icases Hd with ⟨Hgive, ⟨Hk0, Hk1, Hk2, Hk3⟩⟩
  iapply (wp_part1 m ρ K c W) $$ [Hx Hgive HO HtB HcB HpB]
  · isplitr; · iexact HR
    isplitr; · iexact Hlev
    isplitl [Hx]; · iexact Hx
    isplitl [Hgive]; · iexact Hgive
    isplitl [HO]; · iexact HO
    isplitl [HtB]; · iexact HtB
    isplitl [HcB]; · iexact HcB
    iexact HpB
  rw [handed]
  iintro ⟨Hx, HO, HdB, ⟨-, Hh1, Hh2, Hh3⟩⟩
  iapply (wp_part2 m ρ c) $$ Hx
  iintro Hx
  dsimp only
  iapply (wp_part3 m ρ K c (0 + due c 3 + due c 2) (place c)) $$ [Hx Htot Hh1 HO HtS1 HtR1]
  · isplitr; · iexact HR
    isplitl [Hx]; · iexact Hx
    isplitl [Htot]; · iexact Htot
    isplitl [Hh1]; · iexact Hh1
    isplitl [HO]; · iexact HO
    isplitl [HtS1]; · iexact HtS1
    iexact HtR1
  iintro ⟨Hx, HO, Hs1, Ht2, Ht3⟩
  dsimp only
  iapply (wp_part4 m ρ K c 2#32) $$ [Hh2 Hh3 HO Ht2 Ht3 HtS2 HtR2 HtS3 HtR3 HcR1 HcR2 HcR3 HpR1 HpR2 HpR3 Hk1 Hk2 Hk3]
  · isplitr; · iexact HR
    isplitl [Hh2]; · iexact Hh2
    isplitl [Hh3]; · iexact Hh3
    isplitl [HO]; · iexact HO
    isplitl [Ht2]; · iexact Ht2
    isplitl [Ht3]; · iexact Ht3
    isplitl [HtS2 HtR2]
    · isplitl [HtS2]; · iexact HtS2
      iexact HtR2
    isplitl [HtS3 HtR3]
    · isplitl [HtS3]; · iexact HtS3
      iexact HtR3
    isplitl [HcR1 HcR2 HcR3]
    · isplitl [HcR1]; · iexact HcR1
      isplitl [HcR2]; · iexact HcR2
      iexact HcR3
    isplitl [HpR1 HpR2 HpR3]
    · isplitl [HpR1]; · iexact HpR1
      isplitl [HpR2]; · iexact HpR2
      iexact HpR3
    isplitl [Hk1]; · iexact Hk1
    isplitl [Hk2]; · iexact Hk2
    iexact Hk3
  iintro %f₁ %f₂ %f₃ %v' ⟨%hoff, HO, Hs2, Hs3, ⟨HdR1, HdR2, HdR3⟩, Hg1, Hg2, Hg3⟩
  dsimp only
  iapply (wp_part5 m ρ c f f₃ v' _ hoff) $$ [Hx Hout Hg3]
  · isplitl [Hx]; · iexact Hx
    isplitl [Hout]; · iexact Hout
    iexact Hg3
  iintro ⟨Hx, Hout, Hg3⟩
  dsimp only
  iapply (wp_part6 m ρ c f) $$ [Hx Hout]
  · isplitl [Hx]; · iexact Hx
    iexact Hout
  iintro ⟨Hx, Hout⟩
  dsimp only
  iapply (wp_part7 m ρ c f) $$ [Hx Hout]
  · isplitl [Hx]; · iexact Hx
    iexact Hout
  iintro ⟨Hx, Hout⟩
  dsimp only
  iapply (wp_part8 m ρ c f (place c)) $$ [Hx Hout]
  · isplitl [Hx]; · iexact Hx
    iexact Hout
  iintro ⟨Hx, Hout⟩
  dsimp only
  rw [upTo_all]
  iapply (wp_left_if m ρ K c 1 ((widened _).trans (left_1 c))) $$ [Hs1 HO HpS1]
  · isplitr; · iexact HR
    isplitl [Hs1]; · iexact Hs1
    isplitl [HO]; · iexact HO
    iexact HpS1
  iintro ⟨HO, HdS1, Ht1⟩
  iapply (wp_left_if m ρ K c 2 ((widened _).trans (left_2 c))) $$ [Hs2 HO HpS2]
  · isplitr; · iexact HR
    isplitl [Hs2]; · iexact Hs2
    isplitl [HO]; · iexact HO
    iexact HpS2
  iintro ⟨HO, HdS2, Ht2⟩
  iapply (wp_left_if m ρ K c 3 ((widened _).trans (left_3 c))) $$ [Hs3 HO HpS3]
  · isplitr; · iexact HR
    isplitl [Hs3]; · iexact Hs3
    isplitl [HO]; · iexact HO
    iexact HpS3
  iintro ⟨HO, HdS3, Ht3⟩
  rw [wp_ret]
  imod (close_cells m ρ K c) $$ [HdB HpS0 HdS1 HdS2 HdS3 HpR0 HdR1 HdR2 HdR3] with Hz
  · isplitr; · iexact HR
    rw [bigSep_cells, ← done_zero, ← done_zero]
    isplitl [HdB]; · iexact HdB
    isplitl [HpS0 HdS1 HdS2 HdS3]
    · isplitl [HpS0]; · iexact HpS0
      isplitl [HdS1]; · iexact HdS1
      isplitl [HdS2]; · iexact HdS2
      iexact HdS3
    isplitl [HpR0]; · iexact HpR0
    isplitl [HdR1]; · iexact HdR1
    isplitl [HdR2]; · iexact HdR2
    iexact HdR3
  imodintro
  ihave Htot := (tot_thirds c (totC m ρ c)).2 $$ [Ht1 Ht2 Ht3]
  · isplitl [Ht1]; · iexact Ht1
    isplitl [Ht2]; · iexact Ht2
    iexact Ht3
  ihave Hcomm := (comm_whole (F := F) c) $$ [Hk0 Hg1 Hg2 Hg3 Hrest]
  · isplitl [Hk0]; · iexact Hk0
    isplitl [Hg1]; · iexists f₁; iexact Hg1
    isplitl [Hg2]; · iexists f₂; iexact Hg2
    isplitl [Hg3]; · iexists f₃; iexact Hg3
    iexact Hrest
  iapply Hk
  unfold runPost Φ₁ scratch
  isplitl [Htot Hcomm Hz]
  · isplitl [Htot Hcomm]
    · isplitl [Htot]; · iexists (totC m ρ c); iexact Htot
      iexact Hcomm
    iexact Hz
  isplitl [HO]; · iexact HO
  isplitl [Hx]; · iexact Hx
  iexact Hout

/-- The body, from what the loop hands it to what it hands back. -/
theorem sound_body (c : Dev nD) :
    bodyPre m ρ K c ⊢ wp frame (wpE (defs₀ (F := F)) 𝒱₀ (c : Thread nD τ) none) Set.univ
      (cc0_body xM (Memref.isWhole_whole cc0_stg0_0) oM (Memref.isWhole_whole cc0_stg1_0) totM
        (Memref.isWhole_whole cc0_scratch0) commM (Memref.isWhole_whole cc0_scratch1) cc0_scratch2 cc0_scratch3)
      (fun _ => bodyPost m ρ c) := by
  unfold bodyPre bodyPost ghost
  iintro ⟨⟨⟨#HR, Hpos, Htok⟩, Hcr, #Hlev, Hsc⟩, Ho, ⟨%d0, %g0, %hg0, Hx⟩, ⟨%d1, %g1, %hg1, Hz⟩⟩
  have hx : g0 = xstg m ρ c := by rw [hg0]; unfold Dat.before; rw [if_pos (fetch_0 t₀)]; rfl
  subst hx
  simp only [cc0_body_eq_skeleton]
  unfold Dat.owesAt Pipeline.owesWithin
  icases Ho with ⟨%W, %hW, HO⟩
  rw [show (dats m ρ 0 c).owed t₀.castSucc = O₀ c from rfl]
  iapply (sound_run m ρ K c g1 W) $$ [Hpos Htok Hcr Hsc HO Hx Hz]
  · unfold runPre xPts outPts
    isplitr; · iexact HR
    isplitl [Hpos]; · iexact Hpos
    isplitl [Htok]; · iexact Htok
    isplitl [Hcr]; · iexact Hcr
    isplitr; · iexact Hlev
    isplitl [Hsc]; · iexact Hsc
    isplitl [HO]; · iexact HO
    isplitl [Hx]; · iexact Hx
    iexact Hz
  unfold runPost owing xPts outPts
  iintro ⟨HΦ, ⟨%W', HO⟩, Hx, Hz⟩
  isplitl [HΦ]; · iexact HΦ
  isplitl [HO]
  · rw [show (dats m ρ 0 c).owed t₀.succ = 0 from rfl]
    iexists W'; isplitr
    · ipureintro; exact fun _ _ => Or.inl trivial
    iexact HO
  isplitl [Hx]
  · iexists (xstg m ρ c); isplitr; · ipureintro; rfl
    iexact Hx
  iexists (outAt m ρ c); isplitr; · ipureintro; rfl
  iexact Hz

/-- What the loop hands the body at its one point. -/
def handedOver (c : Dev nD) : sProp 𝕄 :=
  iprop(Φ₀ m ρ c
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- The body from there. -/
theorem sound_handed (c : Dev nD) :
    handedOver m ρ c ⊢ wp frame (wpE (defs₀ (F := F)) 𝒱₀ (c : Thread nD τ) none) Set.univ
      (cc0_body xM (Memref.isWhole_whole cc0_stg0_0) oM (Memref.isWhole_whole cc0_stg1_0) totM
        (Memref.isWhole_whole cc0_scratch0) commM (Memref.isWhole_whole cc0_scratch1) cc0_scratch2 cc0_scratch3)
      (fun _ => bodyPost m ρ c) := by
  unfold handedOver Φ₀ start
  iintro ⟨⟨⟨⟨%K, Hg⟩, Hcr, Hlev⟩, Hsc⟩, Ho, Hx, Hz⟩
  iapply (sound_body m ρ K c)
  unfold bodyPre
  isplitl [Hg Hcr Hlev Hsc]
  · isplitl [Hg]; · iexact Hg
    isplitl [Hcr]; · iexact Hcr
    isplitl [Hlev]; · iexact Hlev
    iexact Hsc
  isplitl [Ho]; · iexact Ho
  isplitl [Hx]; · iexact Hx
  iexact Hz

end Cert.ScanProof

end
-- ==== Proof.Obligation.lean ====
/-
The body's specification in the form the loop asks for it.
-/
module

public import proofs.«01_k».proof.Proof.Body

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 4000 in
/-- The body the loop calls at its one point is the body on the staging buffers. -/
theorem prog_eq : defs₀ (F := F) .tc cfg0.body (cfg0.bodyArgs t₀ (cfg0.slots t₀)) = (cc0_body xM (Memref.isWhole_whole cc0_stg0_0) oM (Memref.isWhole_whole cc0_stg1_0) totM
        (Memref.isWhole_whole cc0_scratch0) commM (Memref.isWhole_whole cc0_scratch1) cc0_scratch2 cc0_scratch3) := rfl

set_option maxHeartbeats 2000000 in
/-- The loop's demand on the body, on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  rw [prog_eq]
  have h := sound_handed m ρ c
  generalize (cc0_body (F := F) xM (Memref.isWhole_whole cc0_stg0_0) oM (Memref.isWhole_whole cc0_stg1_0) totM
        (Memref.isWhole_whole cc0_scratch0) commM (Memref.isWhole_whole cc0_scratch1) cc0_scratch2 cc0_scratch3) = P at h ⊢
  have e : (dats m ρ 0 c).Φ t₀.castSucc = Φ₀ m ρ c := rfl
  have e1 : (dats m ρ 0 c).Φ t₀.succ = Φ₁ c := rfl
  have e2 : (dats m ρ 0 c).after 0 t₀ = xstg m ρ c := rfl
  have e3 : (dats m ρ 0 c).after 1 t₀ = outAt m ρ c := rfl
  rw [e, e1, e2, e3]
  unfold handedOver bodyPost at h
  exact h

end Cert.ScanProof

end
-- ==== Proof.Launch.lean ====
/-
The launch: the cells' records are made, every device is dealt what its body starts from, and the run of the whole
module follows.
-/
module

public import proofs.«01_k».proof.Proof.Obligation
public import Idealize.ShloMosaic.Lib.Pipeline.CollectiveSegs

@[expose] public section

noncomputable section

namespace Cert.ScanProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch makes -/

/-- The kernel's own semaphores: its send and receive cells'. -/
abbrev osem : Bool × Fin 4 → SemLoc sig := fun k => csem (some k)

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_injective⟩

/-- The duties of a device's cells: a unit of its barrier cell from every device, and one for each transfer cell. -/
abbrev DutyIx : Type := Fin 4 ⊕ Bool × Fin 4
abbrev tokOf (cj : Dev nD × DutyIx) : GSem nD τ sig × ℕ × Fin 4 := match cj.2 with
  | .inl p => (barCell cj.1, 0, p)
  | .inr k => (kcell (cj.1, some k), 0, 0)
theorem tokOf_injective : Function.Injective (tokOf : Dev nD × DutyIx → GSem nD τ sig × ℕ × Fin 4) := by
  rintro ⟨c, j⟩ ⟨c', j'⟩ h
  rcases j with p | k <;> rcases j' with p' | k'
  · have h1 := kcell_injective (congrArg Prod.fst h)
    have h2 : p = p' := congrArg (fun x : GSem nD τ sig × ℕ × Fin 4 => x.2.2) h
    exact Prod.ext (Prod.ext_iff.mp h1).1 (h2 ▸ rfl)
  · exact absurd (Prod.ext_iff.mp (kcell_injective (congrArg Prod.fst h))).2 (fun h' => by cases h')
  · exact absurd (Prod.ext_iff.mp (kcell_injective (congrArg Prod.fst h))).2 (fun h' => by cases h')
  · have h1 := kcell_injective (congrArg Prod.fst h)
    have h2 : k = k' := Option.some.inj (Prod.ext_iff.mp h1).2
    exact Prod.ext (Prod.ext_iff.mp h1).1 (h2 ▸ rfl)
def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- The duties of device `c`'s own cells. -/
def toks (c : Dev nD) : sProp 𝕄 :=
  iprop((bigSep Finset.univ fun p : Fin 4 => dutyTok ER (barCell c) 0 p)
    ∗ bigSep Finset.univ fun k : Bool × Fin 4 => dutyTok ER (kcell (c, some k)) 0 0)

/-- What the launch deals device `c`. -/
def G (c : Dev nD) : sProp 𝕄 :=
  iprop((bigSep Finset.univ fun k : CellIx => roundState ER (Rd m ρ) (kcell (c, k)) 0)
    ∗ (bigSep Finset.univ fun k : CellIx => iprop(atPos ER (kcell (c, k)) 0 ∅ 0 ∗ reached ER (kcell (c, k)) 0)) ∗ toks c)

/-- What is made of it. -/
def G' (c : Dev nD) : sProp 𝕄 := iprop(∃ K, ghost m ρ K c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((semVal (sendCell c 0) 0 ∗ semVal (sendCell c 1) 0 ∗ semVal (sendCell c 2) 0 ∗ semVal (sendCell c 3) 0)
      ∗ (semVal (recvCell c 0) 0 ∗ semVal (recvCell c 1) 0 ∗ semVal (recvCell c 2) 0 ∗ semVal (recvCell c 3) 0)) := by
  rw [Pipeline.ownSems0_eq_of_list c osem [(false, 0), (false, 1), (false, 2), (false, 3), (true, 0), (true, 1), (true, 2), (true, 3)] (by decide) (by decide)]
  rw [bracket, bracket, bracket]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) : (bigSep Finset.univ fun k : CellIx => semVal (kcell (c, k)) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, bigSep_cells]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CellIx => semVal (kcell (c, k)) 0) ∗ bigSep Finset.univ fun k : CellIx => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the duties -/

/-- The pairs of a device and a distance, the device moved on by the distance. -/
def step (d : Fin 4) : Dev nD ≃ Dev nD where
  toFun c := c + d
  invFun c := c - d
  left_inv c := by revert c d; decide
  right_inv c := by revert c d; decide

omit [FloatOps F] in
/-- The duties of all the cells, dealt to the devices that pay them. -/
theorem toks_dealt : (bigSep Finset.univ fun c : Dev nD => (toks c : sProp 𝕄)) = bigSep Finset.univ fun c : Dev nD => payToks c := by
  unfold toks payToks
  rw [bigSep_sep', bigSep_sep', bigSep_sep']
  congr 1
  · exact bigSep_univ_comm (fun c p : Dev nD => (dutyTok ER (barCell c) 0 p : sProp 𝕄))
  · rw [bigSep_congr (s := Finset.univ) (fun (c : Dev nD) _ => (show (bigSep Finset.univ fun k : Bool × Fin 4 => (dutyTok ER (kcell (c, some k)) 0 0 : sProp 𝕄))
        = iprop((bigSep Finset.univ fun d : Fin 4 => dutyTok ER (sendCell c d) 0 0) ∗ bigSep Finset.univ fun d : Fin 4 => dutyTok ER (recvCell c d) 0 0) from by
          rw [bigSep_univ_prod, bigSep_univ_eq_bigSepL [false, true] (by decide) (by decide)]; rfl)), bigSep_sep']
    congr 1
    rw [bigSep_univ_comm, bigSep_univ_comm (fun c d : Fin 4 => (dutyTok ER (recvCell (c + d) d) 0 0 : sProp 𝕄))]
    exact bigSep_congr fun d _ => bigSep_univ_equiv (step d) (fun c : Dev nD => (dutyTok ER (recvCell c d) 0 0 : sProp 𝕄))

omit [FloatOps F] in
/-- What persists may be handed to each of many. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CellIx → ℕ) (c : Dev nD) : iprop(records m ρ K ∗ posns c ∗ payToks c) ⊢ G' m ρ c := by
  unfold G' ghost
  iintro H
  iexists K
  iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellIx => iprop(∃ κ : ℕ, cellInv ER (Rd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄)), toks_dealt]
  iintro ⟨HI, ⟨Hat, #HR⟩, Htok⟩
  ihave HK := (BI.bigSep_exists_pi Finset.univ (fun (ck : Dev nD × CellIx) (κ : ℕ) => (cellInv ER (Rd m ρ) κ (kcell ck) : sProp 𝕄))) $$ HI
  icases HK with ⟨%K, #HI⟩
  iapply (each_with (R := records m ρ K) fun c _ => ghost_intro m ρ K c)
  isplitr
  · unfold records; isplitl; · iexact HI
    iexact HR
  · iapply (Entails.of_eq (bigSep_sep' Finset.univ (fun c : Dev nD => posns (F := F) c) payToks).symm)
    isplitl [Hat]; · iexact Hat
    iexact Htok

/-- All the devices' semaphores at once become their cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit the devices are launched with -/

/-- What a debt at one cell is at another. -/
theorem at_cell (a b : Dev nD × CellIx) (n : ℕ) :
    (tallyAt (kcell a) () n : CellTallies nD τ sig Unit) (kcell b) () = if a = b then n else 0 := by
  rw [tallyAt_apply]
  by_cases h : a = b
  · subst h; rw [if_pos ⟨rfl, rfl⟩, if_pos rfl]
  · rw [if_neg (fun h' => h (kcell_injective h'.1).symm), if_neg h]

theorem due_at (c : Dev nD) (d : Fin 4) (b : Dev nD × CellIx) :
    due c d (kcell b) () = if c < c + d ∧ (c + d, some (true, d)) = b then N else 0 := by
  unfold due
  split
  · next h => rw [at_cell]; simp only [h, true_and]
  · next h => rw [if_neg fun h' => h h'.1]; rfl

/-- What device `e` owes a cell at launch. -/
theorem owed_at (e : Dev nD) (b : Dev nD × CellIx) : O₀ e (kcell b) ()
    = 0 + (if e < e + 3 ∧ (e + 3, some (true, 3)) = b then N else 0) + (if e < e + 2 ∧ (e + 2, some (true, 2)) = b then N else 0)
      + (if e < e + 1 ∧ (e + 1, some (true, 1)) = b then N else 0)
      + (if (3, none) = b then 1 else 0) + (if (2, none) = b then 1 else 0) + (if (1, none) = b then 1 else 0) + (if (0, none) = b then 1 else 0) := by
  unfold O₀ O₁
  simp only [Pi.add_apply, Finsupp.add_apply]
  rw [due_at, due_at, due_at, at_cell, at_cell, at_cell, at_cell]
  rfl

/-- A unit from every device at a barrier cell; -/
theorem owed_bar (e c : Dev nD) : O₀ e (barCell c) () = 1 := by
  rw [owed_at]
  simp only [Prod.mk.injEq, reduceCtorEq, and_false, if_false, and_true, Nat.zero_add]
  revert c; decide

/-- a row's credit at a receive cell from the device its distance before it, if there is one. -/
theorem owed_recv (e c : Dev nD) (d : Fin 4) : O₀ e (recvCell c d) () = if e = c - d then (if c - d < c then N else 0) else 0 := by
  have h (P : Prop) [Decidable P] : (if P then N else 0) = N * (if P then 1 else 0) := by split <;> simp
  have hz (P Q : Prop) [Decidable P] [Decidable Q] : (if P then (if Q then N else 0) else 0) = N * (if P ∧ Q then 1 else 0) := by
    by_cases hP : P <;> by_cases hQ : Q <;> simp [hP, hQ]
  rw [owed_at, hz, h, h, h]
  simp only [Prod.mk.injEq, reduceCtorEq, and_false, if_false, Option.some.injEq, true_and, Nat.zero_add, Nat.add_zero, ← Nat.mul_add]
  congr 1
  revert e c d; decide

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun e _ => owed_bar e c]
  rfl

theorem launch_recv (c : Dev nD) (d : Fin 4) (h : c - d < c) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same, Finset.sum_congr rfl fun e _ => owed_recv e c d,
    Finset.sum_ite_eq' Finset.univ (c - d) fun _ => _, if_pos (Finset.mem_univ _), if_pos h]

theorem recv_injective : Function.Injective fun d : Fin 4 => csem (some (true, d)) := by decide
theorem recvCells_sub : (Finset.univ : Finset (Fin 4)).map ⟨_, recv_injective⟩ ⊆ Finset.univ.erase (SemLoc.reg barS) := by decide

omit [FloatOps F] in
/-- The credit of a device's cells. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset recvCells_sub).trans ?_
  rw [bigSep_map]
  refine bigSep_mono fun d _ => ?_
  show (cred (tallyOn (recvCell c d) (launchCredit (Pipeline.owing O₀) 0 (recvCell c d))) : sProp 𝕄) ⊢ recvCred c d
  unfold recvCred
  split
  · next h => rw [launch_recv c d h]
  · iintro -; iempintro

/-! ## The side conditions of the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems0_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
set_option maxHeartbeats 4000000 in
/-- On four devices, over any float values, from any memory with its counters at zero: every weakly fair run of the
    module ends, with every device's arrays at the computed contents and every semaphore at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run is what it was. -/
theorem final_arg (c : Dev nD) : finalA m ρ c (0 : Fin 2) = (s₀ m ρ).mem (win0_0.arr.view.loc (c : Thread nD τ)) :=
  (dats (F := F) m ρ 0 c).arrAt_in (0 : Fin 2) rfl _

end Cert.ScanProof

end
-- ==== Proof.Reads.lean ====
/-
What the staged argument, the blocks of it, and the result array hold, element by element, over any float values.
-/
module

public import proofs.«01_k».proof.Proof.Launch
public import Idealize.ShloMosaic.Lib.ValueIdxCore
public import Idealize.ShloMosaic.Lib.Pipeline.Value

@[expose] public section

noncomputable section

namespace Cert.ScanProof

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]
variable (m : (ℓ : Loc nD τ sig) → Buf (Elt F) ℓ) (ρ : Dev nD → PrngReg)

/-- Row `r` of the `j`-th 256 rows of a block. -/
def rowAt (j : Fin 16) (r : Fin 256) : Fin 4096 := ⟨256 * j.val + r.val, by omega⟩

/-- Every row of a block is one of those. -/
theorem exists_rowAt (p : Fin 4096) : ∃ (j : Fin 16) (r : Fin 256), rowAt j r = p :=
  ⟨⟨p.val / 256, by omega⟩, ⟨p.val % 256, by omega⟩, Fin.ext (by show 256 * (p.val / 256) + p.val % 256 = p.val; omega)⟩

theorem off0 : (fun a => win0_0.index (0 : Fin 1) a * main_arg0.ty.shape.size a) = fun _ => 0 :=
  funext fun a => by fin_cases a <;> decide
theorem off1 : (fun a => win0_1.index (0 : Fin 1) a * main_v1.ty.shape.size a) = fun _ => 0 :=
  funext fun a => by fin_cases a <;> decide

/-- The argument's one block is the argument: the staged copy holds what the argument holds. -/
theorem xstg_eq (c : Dev nD) : xstg m ρ c = m ((c : Thread nD τ).loc main_arg0) :=
  Memref.read_access_unit_zero (Elt F) main_arg0 off0 (fun a => by fin_cases a <;> decide) _

theorem xR_idx (j : Fin 16) (r : Fin 256) (k : Fin 1024) :
    (xR j).toLoadRect.idx (ix2 r k : S256x1024.Idx) = (ix2 (rowAt j r) k : S4096x1024.Idx) := by
  funext a
  apply Fin.ext
  match a with
  | ⟨0, _⟩ => show 256 * j.val + 1 * r.val = 256 * j.val + r.val; omega
  | ⟨1, _⟩ => show 0 + 1 * k.val = k.val; omega

/-- The `j`-th 256 rows of the staged argument hold the argument's rows from `256 j` on. -/
theorem xb_apply (c : Dev nD) (j : Fin 16) (r : Fin 256) (k : Fin 1024) :
    xb m ρ c j (ix2 r k) = m ((c : Thread nD τ).loc main_arg0) (ix2 (rowAt j r) k) := by
  unfold xb
  rw [xstg_eq, View.readAt_apply, xR_idx]
  rfl

/-- Reading a whole result-sized buffer reads its contents. -/
theorem read_oM (f : (cc0_stg1_0 : Ref sig .tc).ty.Contents (Elt F)) : oM.view.read (Elt F) f = f := View.read_whole _ _

/-- Of sixteen tiles of 256 whole rows stored one after the other, the `j`-th is read back at the rows from `256 j` on. -/
theorem tiles_apply (P : Fin 16 → Vec F S256x1024 .f32) (f : (cc0_stg1_0 : Ref sig .tc).ty.Contents (Elt F)) (j : Fin 16) (r : Fin 256)
    (k : Fin 1024) :
    oM.view.read (Elt F) (oM.view.writes (Elt F) f
      (View.tilePieces S256x1024.size (fun i : Fin 16 => ![256 * i.val, 0]) x_inb P 16 le_rfl)) (ix2 (rowAt j r) k) = P j (ix2 r k) := by
  apply View.read_tilePieces (Val := Elt F) oM.view f S256x1024.size (fun i : Fin 16 => ![256 * i.val, 0]) x_inb P 16 le_rfl
    (ix2 (rowAt j r) k) j j.isLt (ix2 r k) ?_ (0 : Fin 2) ?_
  · intro a
    match a with
    | ⟨0, _⟩ => rfl
    | ⟨1, _⟩ => show k.val = 0 + k.val; omega
  · intro j' hj'
    have h : j'.val ≠ j.val := fun e => hj' (Fin.ext e)
    show 256 * j.val + r.val < 256 * j'.val ∨ 256 * j'.val + 256 ≤ 256 * j.val + r.val
    omega

/-- The result's staging buffer holds, at the rows from `256 j` on, the `j`-th 256 rows of the result. -/
theorem outAt_apply (c : Dev nD) (j : Fin 16) (r : Fin 256) (k : Fin 1024) :
    outAt m ρ c (ix2 (rowAt j r) k) = blk m ρ c j (ix2 r k) := by
  rw [← read_oM (outAt m ρ c)]
  unfold outAt
  exact tiles_apply (fun i => blk m ρ c i) (View.junk oM.view) j r k

set_option maxRecDepth 8000 in
set_option maxHeartbeats 4000000 in
/-- What the one point writes back is what the result's staging buffer held. -/
theorem flushed_eq (c : Dev nD) : (dats m ρ 0 c).flushed (1 : Fin 2) (0 : Fin 1) = outAt m ρ c := by
  unfold Dat.flushed
  rfl

/-- The result array's one block, read back after the run, is what the result's staging buffer held. -/
theorem final_blk (c : Dev nD) : (win0_1.blk (0 : Fin 1)).view.read (Elt F) (finalA m ρ c (1 : Fin 2)) = outAt m ρ c := by
  refine Eq.trans ?_ (flushed_eq m ρ c)
  unfold finalA
  rw [congrArg ((dats m ρ 0 c).arrAt (1 : Fin 2)) (show cfg0.N = (0 : Fin 1).val + 1 from cfg0_N)]
  rw [(dats m ρ 0 c).arrAt_succ (1 : Fin 2) (0 : Fin 1)]
  rw [if_pos (flush0_1 (0 : Fin 1))]
  exact View.read_write_univ _ _

/-- After the run the result array holds what the result's staging buffer held. -/
theorem final_out (c : Dev nD) : finalA m ρ c (1 : Fin 2) = outAt m ρ c := by
  have hr := Memref.read_access_unit_zero (Elt F) main_v1 off1 (fun a => by fin_cases a <;> decide) (finalA m ρ c (1 : Fin 2))
  exact hr.symm.trans (final_blk m ρ c)

end Cert.ScanProof

end
-- ==== Proof.Sums.lean ====
/-
Running sums over the natural numbers, and the two printed operations that compute them over the extended reals:
the host's windowed sum (jnp's cumulative sum down the rows) and a product with a lower triangular matrix of ones.
-/
module

public import Idealize.ShloMosaic.PureOps.Ideal.Laws
public import Idealize.ShloMosaic.Lib.ValueIdxCore
public import Mathlib.Algebra.BigOperators.Fin
public import Mathlib.Algebra.BigOperators.Intervals

@[expose] public section

namespace Cert.ScanProof

open Idealize.ShloMosaic Idealize.ShloMosaic.ValueIdx
open scoped BigOperators

/-! ## Sums in blocks -/

/-- The sums over `n` consecutive blocks of `b` numbers from `a` on add up to the sum over all `b * n` of them. -/
theorem sum_blocks (G : ℕ → EReal) (a b n : ℕ) :
    ∑ j ∈ Finset.range n, ∑ i ∈ Finset.range b, G (a + b * j + i) = ∑ i ∈ Finset.range (b * n), G (a + i) := by
  induction n with
  | zero => simp
  | succ n ih =>
    rw [Finset.sum_range_succ, ih, Nat.mul_succ, Finset.sum_range_add]
    exact congrArg (_ + ·) (Finset.sum_congr rfl fun i _ => by rw [Nat.add_assoc])

/-- The first `a` numbers and the `b` after them are the first `a + b`. -/
theorem sum_append (G : ℕ → EReal) (a b : ℕ) :
    ∑ i ∈ Finset.range a, G i + ∑ i ∈ Finset.range b, G (a + i) = ∑ i ∈ Finset.range (a + b), G i :=
  (Finset.sum_range_add G a b).symm

/-- Weighting the numbers of a block by one up to `r` and by zero after it leaves the sum of the first `r + 1`. -/
theorem sum_weights (N : ℕ) (f : ℕ → EReal) (r : Fin N) :
    ∑ s : Fin N, (if s.val ≤ r.val then (1 : EReal) else 0) * f s.val = ∑ i ∈ Finset.range (r.val + 1), f i := by
  rw [Fin.sum_univ_eq_sum_range (fun n => (if n ≤ r.val then (1 : EReal) else 0) * f n) N]
  have hr := r.isLt
  obtain ⟨q, hq⟩ : ∃ q, N = (r.val + 1) + q := ⟨N - (r.val + 1), by omega⟩
  rw [congrArg Finset.range hq, Finset.sum_range_add]
  have h1 : ∑ n ∈ Finset.range (r.val + 1), (if n ≤ r.val then (1 : EReal) else 0) * f n = ∑ i ∈ Finset.range (r.val + 1), f i :=
    Finset.sum_congr rfl fun n hn => by
      rw [if_pos (by have := Finset.mem_range.1 hn; omega), one_mul]
  have h2 : ∑ n ∈ Finset.range q, (if r.val + 1 + n ≤ r.val then (1 : EReal) else 0) * f (r.val + 1 + n) = 0 :=
    Finset.sum_eq_zero fun n _ => by rw [if_neg (by omega), zero_mul]
  rw [h1, h2, add_zero]

/-! ## The host's cumulative sum -/

/-- Adding a list's terms one after the other is their sum. -/
theorem foldl_plus {N : ℕ} (t : Fin N → EReal) : ∀ (l : List (Fin N)) (v : EReal),
    l.foldl (fun r n => r + t n) v = v + (l.map t).sum
  | [], v => by simp
  | a :: l, v => by rw [List.foldl_cons, foldl_plus t l, List.map_cons, List.sum_cons, add_assoc]

/-- A window that ends at row `r` and is as high as the array adds up the rows up to `r`. -/
theorem sum_backwards (n r : ℕ) (hr : r < n + 1) (f : ℕ → EReal) :
    ∑ w ∈ Finset.range (n + 1), (if n ≤ r + w then f (r + w - n) else 0) = ∑ i ∈ Finset.range (r + 1), f i := by
  rw [congrArg Finset.range (show n + 1 = (n - r) + (r + 1) by omega), Finset.sum_range_add]
  have h1 : ∑ w ∈ Finset.range (n - r), (if n ≤ r + w then f (r + w - n) else 0) = 0 :=
    Finset.sum_eq_zero fun w hw => if_neg (by have := Finset.mem_range.1 hw; omega)
  rw [h1, zero_add]
  refine Finset.sum_congr rfl fun i _ => ?_
  rw [if_pos (by omega)]
  exact congrArg f (by omega)

/-- jnp's cumulative sum down the rows of an `[N, k]` matrix, as it prints, with the initial value zero: where column `c` holds `f 0, f 1, …`, its row
`r` holds `f 0 + … + f r`. -/
theorem cumsum_apply {n N k : ℕ} (hn : n + 1 = N) (x : (⟨2, ![N, k]⟩ : Shape).Idx → EReal) (z : EReal) (hz : z = 0)
    (h : (⟨2, ![N, k]⟩ : Shape).ReduceWindows (![N, 1] : Fin 2 → ℕ) ![1, 1] ![n, 0] ![0, 0] ⟨2, ![N, k]⟩)
    (hu : 0 < (⟨0, ![]⟩ : Shape).numel) (r : Fin N) (c : Fin k) (f : ℕ → EReal) (hf : ∀ i : Fin N, x (ix2 i c) = f i.val) :
    Host.reduceWindow (· + ·) ![N, 1] ![1, 1] ![n, 0] ![0, 0] x (fun _ : (⟨0, ![]⟩ : Shape).Idx => z) h hu (ix2 r c)
      = ∑ i ∈ Finset.range (r.val + 1), f i := by
  subst hn
  subst hz
  have hr := r.isLt
  have hc := c.isLt
  have hN : (⟨2, ![n + 1, 1]⟩ : Shape).numel = n + 1 := by
    simp [Shape.numel, Fin.prod_univ_two]
  have hw : ∀ w : Fin (⟨2, ![n + 1, 1]⟩ : Shape).numel,
      (⟨2, ![n + 1, 1]⟩ : Shape).rowMajor.symm w = ix2 (w.cast hN) (0 : Fin 1) := fun w => by
    rw [Equiv.symm_apply_eq]
    apply Fin.ext
    rw [Shape.rowMajor_val_two]
    show w.val = w.val * 1 + 0
    omega
  unfold Host.reduceWindow
  refine (congrArg (fun g => List.foldl g (0 : EReal) _) (funext fun v => funext fun w => congrArg (v + ·) (?_ :
      _ = (fun w : Fin (⟨2, ![n + 1, 1]⟩ : Shape).numel => if n ≤ r.val + w.val then f (r.val + w.val - n) else 0) w))).trans ?_
  · have h0 : ((⟨2, ![n + 1, 1]⟩ : Shape).rowMajor.symm w 0).val = w.val := by rw [hw]; rfl
    have h1 : ((⟨2, ![n + 1, 1]⟩ : Shape).rowMajor.symm w 1).val = 0 := by rw [hw]; rfl
    have hwn : w.val < n + 1 := (w.cast hN).isLt
    dsimp only
    by_cases hle : n ≤ r.val + w.val
    · rw [if_pos hle, dif_pos (fun a => by
        match a with
        | ⟨0, _⟩ =>
          show n ≤ r.val * 1 + ((⟨2, ![n + 1, 1]⟩ : Shape).rowMajor.symm w 0).val
            ∧ r.val * 1 + ((⟨2, ![n + 1, 1]⟩ : Shape).rowMajor.symm w 0).val - n < n + 1
          rw [h0]; omega
        | ⟨1, _⟩ =>
          show 0 ≤ c.val * 1 + ((⟨2, ![n + 1, 1]⟩ : Shape).rowMajor.symm w 1).val
            ∧ c.val * 1 + ((⟨2, ![n + 1, 1]⟩ : Shape).rowMajor.symm w 1).val - 0 < k
          rw [h1]; omega)]
      refine (congrArg x (funext fun a => Fin.ext ?_)).trans (hf ⟨r.val + w.val - n, by omega⟩)
      match a with
      | ⟨0, _⟩ =>
        show r.val * 1 + ((⟨2, ![n + 1, 1]⟩ : Shape).rowMajor.symm w 0).val - n = r.val + w.val - n
        rw [h0, Nat.mul_one]
      | ⟨1, _⟩ =>
        show c.val * 1 + ((⟨2, ![n + 1, 1]⟩ : Shape).rowMajor.symm w 1).val - 0 = c.val
        rw [h1]; omega
    · rw [if_neg hle, dif_neg (fun hin => hle (by
        have h' := (hin 0).1
        change n ≤ r.val * 1 + ((⟨2, ![n + 1, 1]⟩ : Shape).rowMajor.symm w 0).val at h'
        rw [h0] at h'; omega))]
  · rw [foldl_plus, zero_add, ← Fin.sum_univ_def]
    refine (Fin.sum_univ_eq_sum_range (fun w => if n ≤ r.val + w then f (r.val + w - n) else 0) _).trans ?_
    exact (congrArg (fun M => ∑ w ∈ Finset.range M, (if n ≤ r.val + w then f (r.val + w - n) else 0)) hN).trans
      (sum_backwards n r.val hr f)

end Cert.ScanProof

end
-- ==== Proof.Values.lean ====
/-
What the kernel computes over the extended reals: column `k` of the result on device `c` holds, at row `p`, the sum of
the first `4096 c + p + 1` numbers of the whole array's column `k`.
-/
module

public import proofs.«01_k».proof.Proof.Protocol
public import proofs.«01_k».proof.Proof.Sums
public import Idealize.ShloMosaic.Lib.MatmulPlain
public import Idealize.ShloMosaic.Lib.ValueIdx
public import Idealize.ShloMosaic.Lib.ValueLayout
public import Idealize.ShloMosaic.Lib.WordCmp
public import Idealize.ShloMosaic.Lib.Pipeline.Value

@[expose] public section

noncomputable section

namespace Cert.ScanProof

open Cert.KernelIdeal Cert.KernelIdeal.Gen
open Idealize.ShloMosaic Idealize.ShloMosaic.TcCoe Idealize.ShloMosaic.ValueIdx
open scoped BigOperators

/-! ## The printed operations at an index -/

/-- The matrix of ones on and below the diagonal. -/
theorem tri_apply (r s : Fin 256) : k0_pay20 (F := Ideal) (ix2 r s) = if s.val ≤ r.val then (1 : EReal) else 0 := by
  have h : cmpi .sge (iota .tc S256x256 32 [0] iota_S256x256_d0_w32) (iota .tc S256x256 32 [1] iota_S256x256_d1_w32) (ix2 r s)
      = BitVec.ofBool (decide (s.val ≤ r.val)) := by
    show IntOp.cmpi .sge (iota .tc S256x256 32 [0] iota_S256x256_d0_w32 (ix2 r s)) (iota .tc S256x256 32 [1] iota_S256x256_d1_w32 (ix2 r s)) = _
    rw [iota_single_apply, iota_single_apply]
    exact WordCmp.cmpi_sge_ofNat (by show r.val < 2 ^ 31; omega) (by show s.val < 2 ^ 31; omega)
  show FloatOps.sitofp (F := Ideal) .f32 ((cmpi .sge (iota .tc S256x256 32 [0] iota_S256x256_d0_w32)
    (iota .tc S256x256 32 [1] iota_S256x256_d1_w32) (ix2 r s)).setWidth 32) = _
  rw [h]
  show (((BitVec.setWidth 32 (BitVec.ofBool (decide (s.val ≤ r.val)))).toInt : ℝ) : EReal) = _
  by_cases hs : s.val ≤ r.val
  · rw [if_pos hs, decide_eq_true hs]; simp
  · rw [if_neg hs, decide_eq_false hs]; simp

/-- The sums of a block's columns. -/
theorem colsum_apply (x : FVec Ideal S256x1024 .f32) (k : Fin 1024) :
    k0_pay1 (F := Ideal) x (ix2 (0 : Fin 1) k) = ∑ i : Fin 256, x (ix2 i k) := by
  unfold k0_pay1
  rw [shapeCast_self, shapeCast_a_1a_apply]
  refine (Ideal.multiReduction_add_single x _ _ _ _ (ix1 k)).trans ?_
  refine Finset.sum_congr rfl fun i _ => congrArg x (funext fun a => Fin.ext ?_)
  match a with
  | ⟨0, _⟩ => rfl
  | ⟨1, _⟩ => rfl

/-- Sixteen rows added up one after the other, at an index. -/
theorem tot_apply {m : (ℓ : Loc nD τ sig) → Buf (Elt Ideal) ℓ} {ρ : Dev nD → PrngReg} (c : Dev nD) (k : Fin 1024) :
    totV m ρ c (ix2 (0 : Fin 1) k) = ∑ j : Fin 16, bs m ρ c j (ix2 (0 : Fin 1) k) := by
  have e : totV m ρ c = shapeCast S1x1024 (addf (addf (addf (addf (addf (addf (addf (addf (addf (addf (addf (addf (addf (addf (addf
      (bs m ρ c 0) (bs m ρ c 1)) (bs m ρ c 2)) (bs m ρ c 3)) (bs m ρ c 4)) (bs m ρ c 5)) (bs m ρ c 6)) (bs m ρ c 7))
      (bs m ρ c 8)) (bs m ρ c 9)) (bs m ρ c 10)) (bs m ρ c 11)) (bs m ρ c 12)) (bs m ρ c 13)) (bs m ρ c 14)) (bs m ρ c 15))
      shapeCasts_S1x1024_S1x1024 := rfl
  rw [e, shapeCast_self]
  simp only [addf_apply]
  generalize bs m ρ c = B
  simp only [Fin.sum_univ_succ, Fin.sum_univ_zero, add_zero, ← add_assoc]
  rfl

/-- A row of zeros. -/
theorem zrow_apply (k : Fin 1024) : zrow (F := Ideal) (ix2 (0 : Fin 1) k) = (0 : EReal) := Ideal.ofBits_zero_f32

/-- Of four devices the one, two and three places before `c`, where they are there, are those before `c`. -/
theorem sum_before (T : ℕ → EReal) (c : Fin 4) :
    0 + (if c - 1 < c then T (c - 1).val else 0) + (if c - 2 < c then T (c - 2).val else 0) + (if c - 3 < c then T (c - 3).val else 0)
      = ∑ e ∈ Finset.range c.val, T e := by
  have hc : c = 0 ∨ c = 1 ∨ c = 2 ∨ c = 3 := by revert c; decide
  rcases hc with rfl | rfl | rfl | rfl
  · show (((0 : EReal) + 0) + 0) + 0 = 0
    simp
  · show (((0 : EReal) + T 0) + 0) + 0 = ∑ e ∈ Finset.range 1, T e
    simp
  · show (((0 : EReal) + T 1) + T 0) + 0 = ∑ e ∈ Finset.range 2, T e
    rw [Finset.sum_range_succ, Finset.sum_range_succ, Finset.sum_range_zero, zero_add, zero_add, add_zero, add_comm]
  · show (((0 : EReal) + T 2) + T 1) + T 0 = ∑ e ∈ Finset.range 3, T e
    rw [Finset.sum_range_succ, Finset.sum_range_succ, Finset.sum_range_succ, Finset.sum_range_zero, zero_add, zero_add]
    ac_rfl

/-! ## Running sums of one column -/

section Column

variable (m : (ℓ : Loc nD τ sig) → Buf (Elt Ideal) ℓ) (ρ : Dev nD → PrngReg) (k : Fin 1024) (G : ℕ → EReal)
  (hG : ∀ (c : Dev nD) (j : Fin 16) (r : Fin 256), xb m ρ c j (ix2 r k) = G (4096 * c.val + 256 * j.val + r.val))

include hG

/-- The column sums of the `j`-th 256 rows. -/
theorem bs_eq (c : Dev nD) (j : Fin 16) :
    bs m ρ c j (ix2 (0 : Fin 1) k) = ∑ i ∈ Finset.range 256, G (4096 * c.val + 256 * j.val + i) := by
  unfold bs
  rw [colsum_apply, Finset.sum_congr rfl fun i _ => hG c j i]
  exact Fin.sum_univ_eq_sum_range (fun i => G (4096 * c.val + 256 * j.val + i)) 256

/-- The column sums of a device's whole block. -/
theorem tot_eq (c : Dev nD) : totV m ρ c (ix2 (0 : Fin 1) k) = ∑ i ∈ Finset.range 4096, G (4096 * c.val + i) := by
  rw [tot_apply, Finset.sum_congr rfl fun j _ => bs_eq m ρ k G hG c j,
    Fin.sum_univ_eq_sum_range (fun j => ∑ i ∈ Finset.range 256, G (4096 * c.val + 256 * j + i)) 16]
  exact sum_blocks G (4096 * c.val) 256 16

/-- What the devices before `c` send it adds up to the sum of everything before `c`'s rows. -/
theorem before_eq (c : Dev nD) : offV m ρ c (ix2 (0 : Fin 1) k) = ∑ i ∈ Finset.range (4096 * c.val), G i := by
  have hp : ∀ d : Fin 4, part m ρ c d (ix2 (0 : Fin 1) k)
      = if c - d < c then ∑ i ∈ Finset.range 4096, G (0 + 4096 * (c - d).val + i) else 0 := fun d => by
    unfold part
    split
    · rw [tot_eq m ρ k G hG, Nat.zero_add]
    · exact zrow_apply k
  have h := sum_blocks G 0 4096 c.val
  simp only [Nat.zero_add] at h
  rw [← h]
  unfold offV
  simp only [addf_apply]
  rw [hp, hp, hp, zrow_apply]
  simp only [Nat.zero_add]
  generalize hT : (fun e : ℕ => ∑ i ∈ Finset.range 4096, G (4096 * e + i)) = T
  have hT' : ∀ e : ℕ, ∑ i ∈ Finset.range 4096, G (4096 * e + i) = T e := fun e => congrFun hT e
  simp only [hT']
  exact sum_before T c

/-- What the `j`-th 256 rows start from is the sum of everything before them. -/
theorem offs_eq (c : Dev nD) : ∀ j : ℕ, j ≤ 16 →
    offs m ρ c j (ix2 (0 : Fin 1) k) = ∑ i ∈ Finset.range (4096 * c.val + 256 * j), G i
  | 0, _ => before_eq m ρ k G hG c
  | j + 1, hj => by
    show offs m ρ c j (ix2 (0 : Fin 1) k) + bs m ρ c (Fin.ofNat 16 j) (ix2 (0 : Fin 1) k) = _
    rw [offs_eq c j (by omega), bs_eq m ρ k G hG, show (Fin.ofNat 16 j).val = j from Nat.mod_eq_of_lt (by omega), sum_append]
    rfl

/-- Row `r` of the `j`-th 256 rows of the result is the sum of everything up to that row. -/
theorem blk_eq (c : Dev nD) (j : Fin 16) (r : Fin 256) :
    blk m ρ c j (ix2 r k) = ∑ i ∈ Finset.range (4096 * c.val + 256 * j.val + r.val + 1), G i := by
  unfold blk
  rw [addf_apply, shapeCast_self, broadcastTo_1b_ab_apply, offs_eq m ρ k G hG c j.val (by omega)]
  have hm := Ideal.matmul_plain_apply (M := 256) (K := 256) (N := 1024) none (k0_pay20 (F := Ideal))
    (truncf .bf16 (xb m ρ c j) bitsLt_bf16_f32) (constant S256x1024 .f32 0x00000000#32) r k
  refine (congrArg (· + _) hm).trans ?_
  have hs : ∀ s : Fin 256, k0_pay20 (F := Ideal) (ix2 r s) * (truncf .bf16 (xb m ρ c j) bitsLt_bf16_f32 : FVec Ideal S256x1024 .bf16) (ix2 s k)
      = (if s.val ≤ r.val then (1 : EReal) else 0) * (fun i => G (4096 * c.val + 256 * j.val + i)) s.val := fun s => by
    rw [tri_apply, truncf_apply, hG c j s]
  rw [Finset.sum_congr rfl fun s _ => hs s, sum_weights 256 (fun i => G (4096 * c.val + 256 * j.val + i)) r, constant_apply,
    Ideal.ofBits_zero_f32, zero_add, add_comm, sum_append]
  rfl

end Column

end Cert.ScanProof

end
-- ==== Proof.Equation.lean ====
/-
The equation: over the extended reals the result of device `c` is block `c` of the reference's cumulative sum.
-/
module

public import proofs.«01_k».proof.Proof.Reads
public import proofs.«01_k».proof.Proof.Values
public import proofs.«01_k».proof.Proof.Gen.ReferenceIdeal
public import proofs.«01_k».proof.Proof.Gen.ReferenceIdeal.Run
public import Idealize.ShloMosaic.Lib.Layout

@[expose] public section

noncomputable section

namespace Cert.ScanProof

open Idealize.ShloMosaic Idealize.ShloMosaic.TcCoe Idealize.ShloMosaic.ValueIdx
open scoped BigOperators

/-- The numbers of column `k` of the whole array, from the top down (zeros after them). -/
def col (x : Cert.ReferenceIdeal.S16384x1024.Idx → EReal) (k : Fin 1024) (i : ℕ) : EReal :=
  if h : i < 16384 then x (ix2 ⟨i, h⟩ k) else 0

/-- The reference's value: the printed cumulative sum down the rows. -/
def refV (x : FVec Ideal Cert.ReferenceIdeal.S16384x1024 .f32) : FVec Ideal Cert.ReferenceIdeal.S16384x1024 .f32 :=
  Host.reduceWindowAdd ![16384, 1] ![1, 1] ![16383, 0] ![0, 0] x
    (broadcastInDim Cert.ReferenceIdeal.S_ ![] Cert.ReferenceIdeal.Facts₀.bcast_S_S_ (constant Cert.ReferenceIdeal.S_ .f32 0x00000000#32))
    Cert.ReferenceIdeal.Facts₀.reduceWindows_S16384x1024_S16384x1024_w16384s1p16383_0_w1s1p0_0 Cert.ReferenceIdeal.Facts₀.h_S_

/-- The host's windowed float sum over the extended reals is the fold of exact additions from the initial value. -/
theorem windowAdd_eq {s t : Shape} (window strides lo hi : Fin s.rank → ℕ) (x : FVec Ideal s .f32)
    (init : (⟨0, ![]⟩ : Shape).Idx → Ideal .f32) (h : s.ReduceWindows window strides lo hi t) (hu : 0 < (⟨0, ![]⟩ : Shape).numel) :
    Host.reduceWindowAdd window strides lo hi x init h hu
      = Host.reduceWindow (fun a b : EReal => a + b) window strides lo hi x (fun _ : (⟨0, ![]⟩ : Shape).Idx => init (Shape.Idx.first hu)) h hu := rfl

/-- Row `p` of column `k` of the reference's value is the sum of the column's first `p + 1` numbers. -/
theorem refV_apply (x : FVec Ideal Cert.ReferenceIdeal.S16384x1024 .f32) (p : Fin 16384) (k : Fin 1024) :
    refV x (ix2 p k) = ∑ i ∈ Finset.range (p.val + 1), col x k i := by
  have hN : 16383 + 1 = 16384 := rfl
  have hc : ∀ i : Fin 16384, x (ix2 i k) = col x k i.val := fun i => by unfold col; rw [dif_pos i.isLt]
  have h := cumsum_apply hN x (Ideal.ofBits .f32 0x00000000#32) Ideal.ofBits_zero_f32
    Cert.ReferenceIdeal.Facts₀.reduceWindows_S16384x1024_S16384x1024_w16384s1p16383_0_w1s1p0_0 Cert.ReferenceIdeal.Facts₀.h_S_ p k (col x k) hc
  exact (congrFun (windowAdd_eq _ _ _ _ x _ _ _) _).trans h

/-- Where an index of block `c` sits in the whole array. -/
theorem block_idx (h : Layout.Tiles ⟨2, ![4096, 1024]⟩ ⟨2, ![16384, 1024]⟩ 0 4) (c : Fin 4) (p : Fin 4096) (k : Fin 1024) :
    h.idx c (ix2 p k) = ix2 (⟨4096 * c.val + p.val, by omega⟩ : Fin 16384) k := by
  funext a
  apply Fin.ext
  rw [Layout.Tiles.idx_val]
  match a with
  | ⟨0, _⟩ => show c.val * 4096 + p.val = 4096 * c.val + p.val; omega
  | ⟨1, _⟩ => rfl

open Cert.KernelIdeal in
/-- Where every device holds its block of the whole array, the result of device `c` is block `c` of the reference's value. -/
theorem out_eq (m : (ℓ : Loc nD τ sig) → Buf (Elt Ideal) ℓ) (ρ : Dev nD → PrngReg)
    (x : FVec Ideal Cert.ReferenceIdeal.S16384x1024 .f32)
    (h : Layout.Tiles ⟨2, ![4096, 1024]⟩ ⟨2, ![16384, 1024]⟩ 0 4)
    (hx : ∀ c : Dev nD, m ((c : Thread nD τ).loc main_arg0) = Layout.block ⟨2, ![4096, 1024]⟩ ⟨2, ![16384, 1024]⟩ 0 4 c x h) (c : Dev nD) :
    finalA m ρ c (1 : Fin 2) = Layout.block ⟨2, ![4096, 1024]⟩ ⟨2, ![16384, 1024]⟩ 0 4 c (refV x) h := by
  rw [final_out]
  funext i
  obtain ⟨p, k, rfl⟩ : ∃ (p : Fin 4096) (k : Fin 1024), ix2 p k = i := ⟨i 0, i 1, (eq_ix2 i).symm⟩
  obtain ⟨j, r, rfl⟩ := exists_rowAt p
  rw [outAt_apply, Layout.block_apply, block_idx, refV_apply]
  have hG : ∀ (c : Dev nD) (j : Fin 16) (r : Fin 256), xb m ρ c j (ix2 r k) = col x k (4096 * c.val + 256 * j.val + r.val) := by
    intro c j r
    have hc : c.val < 4 := c.isLt
    have hlt : 4096 * c.val + 256 * j.val + r.val < 16384 := by omega
    rw [xb_apply, hx c, Layout.block_apply, block_idx]
    unfold col
    rw [dif_pos hlt]
    exact congrArg (fun q : Fin 16384 => x (ix2 q k)) (Fin.ext (by
      show 4096 * c.val + (256 * j.val + r.val) = 4096 * c.val + 256 * j.val + r.val
      omega))
  rw [blk_eq m ρ k (col x k) hG c j r]
  exact congrArg (fun n => ∑ i ∈ Finset.range n, col x k i) (by
    show 4096 * c.val + 256 * j.val + r.val + 1 = 4096 * c.val + (256 * j.val + r.val) + 1
    omega)

end Cert.ScanProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.ScanProof

/-- Over any float values the kernel runs, its argument unchanged and every counter back at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c (0 : Fin 2)).trans (final_arg m ρ c), h.2⟩) (run_main m ρ)

/-- The compiled kernel's body table is that of the text read over the extended reals, -/
theorem table₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
/-- and so is its whole table. -/
theorem table_eq : Cert.Kernel.defs (F := Bits) = Cert.KernelIdeal.defs (F := Bits) := by
  unfold Cert.Kernel.defs Cert.KernelIdeal.defs
  rw [table₀_eq]; rfl

/-- The kernel as compiled; -/
theorem frame_kernel : Cert.quiescent_Kernel := fun m ρ _ => by
  rw [table_eq]
  exact frame_any (F := Bits) m ρ

/-- and the same text read over the extended reals. -/
theorem frame_kernelIdeal : Cert.quiescent_KernelIdeal := fun m ρ _ => frame_any (F := Ideal) m ρ

/-- The reference runs; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is its block of the reference's cumulative sum. -/
theorem algebraic : Cert.algebraic_KernelIdeal_ReferenceIdeal := by
  intro m g m' g' _ hagree
  exact ⟨Cert.ScanProof.refV (m' ((0 : Dev Cert.ReferenceIdeal.nD).tc.loc Cert.ReferenceIdeal.main_arg0)),
    (θ_run Cert.KernelIdeal.defs _ _).mono
      (fun r h c => ⟨(h.1 c (1 : Fin 2)).trans (Cert.ScanProof.out_eq m g _ _ hagree c), (h.1 c (0 : Fin 2)).trans (final_arg m g c)⟩)
      (run_main (F := Ideal) m g),
    (θ_run Cert.ReferenceIdeal.defs _ _).mono (fun r h => ⟨(h 0).1, (h 0).2⟩) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
